-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v27)) (v1 : (c : Dev Cert.KernelIdeal.nD) → Buf (Elt Ideal) ((c.tc : Thread Cert.KernelIdeal.nD Cert.KernelIdeal.τ).loc Cert.KernelIdeal.main_v30)) (v2 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_v30) = v1 c
          ∧ r.2.mem ((c.tc : Thread Cert.KernelIdeal.nD Cert.KernelIdeal.τ).loc Cert.KernelIdeal.main_v33) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_v94) = v1 c
          ∧ r.2.mem ((c.tc : Thread Cert.ReferenceIdeal.nD Cert.ReferenceIdeal.τ).loc Cert.ReferenceIdeal.main_v95) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S32x20000x4 : Shape := ⟨3, ![32, 20000, 4]⟩
abbrev S32x20000x2 : Shape := ⟨3, ![32, 20000, 2]⟩
abbrev S32x20000 : Shape := ⟨2, ![32, 20000]⟩
abbrev S_ : Shape := ⟨0, ![]⟩
abbrev S32x20000x1 : Shape := ⟨3, ![32, 20000, 1]⟩
abbrev S32x1x20000 : Shape := ⟨3, ![32, 1, 20000]⟩
abbrev S32x20000x20000 : Shape := ⟨3, ![32, 20000, 20000]⟩

class Facts : Prop where
  bcast_S_S32x20000 : S_.BroadcastsInDim S32x20000 (![] : Fin 0 → Fin S32x20000.rank)
  reducesTo_S32x20000_S_d0_1 : S32x20000.ReducesTo [0, 1] S_
  h_S_ : 0 < S_.numel
  bcast_S_S32x20000x2 : S_.BroadcastsInDim S32x20000x2 (![] : Fin 0 → Fin S32x20000x2.rank)
  reducesTo_S32x20000x2_S_d0_1_2 : S32x20000x2.ReducesTo [0, 1, 2] S_
  slices_S32x20000x2_S32x20000x1_0_0_1 : S32x20000x2.Slices ![0, 0, 1] S32x20000x1
  shapeCasts_S32x20000x1_S32x20000 : S32x20000x1.ShapeCasts S32x20000
  slices_S32x20000x2_S32x20000x1_0_0_0 : S32x20000x2.Slices ![0, 0, 0] S32x20000x1
  bcast_S32x20000_S32x20000x1_0_1 : S32x20000.BroadcastsInDim S32x20000x1 (![0, 1] : Fin 2 → Fin S32x20000x1.rank)
  bcast_S32x20000_S32x1x20000_0_2 : S32x20000.BroadcastsInDim S32x1x20000 (![0, 2] : Fin 2 → Fin S32x1x20000.rank)
  bcast_S32x20000x1_S32x20000x20000_0_1_2 : S32x20000x1.BroadcastsInDim S32x20000x20000 (![0, 1, 2] : Fin 3 → Fin S32x20000x20000.rank)
  bcast_S32x1x20000_S32x20000x20000_0_1_2 : S32x1x20000.BroadcastsInDim S32x20000x20000 (![0, 1, 2] : Fin 3 → Fin S32x20000x20000.rank)
  reducesTo_S32x20000x20000_S_d0_1_2 : S32x20000x20000.ReducesTo [0, 1, 2] S_

variable [Facts]

def fn_where {F : FTy → Type} [FloatOps F] (arg0 : IVec S32x20000 1) (arg1 : IVec S32x20000 32) (arg2 : IVec S32x20000 32) : IVec S32x20000 32 :=
  let v0 : IVec S32x20000 32 := select arg0 arg1 arg2
  v0

def fn_part4 {F : FTy → Type} [FloatOps F] (main_v49 : IVec S_ 1) (main_v75 : IVec S_ 1) : IVec S_ 1 :=
  let main_v76 : IVec S_ 1 := andi main_v49 main_v75
  main_v76

def fn_part3 {F : FTy → Type} [FloatOps F] (main_arg2 : FVec F S32x20000x2 .f32) (main_arg7 : IVec S32x20000 32) (main_v49 : IVec S_ 1) (main_v54 : IVec S32x20000 32) : IVec S_ 1 :=
  let main_v55 : FVec F S32x20000x1 .f32 := (extractStridedSlice S32x20000x1 ![0, 0, 1] · slices_S32x20000x2_S32x20000x1_0_0_1) main_arg2
  let main_v56 : FVec F S32x20000 .f32 := shapeCast S32x20000 main_v55 shapeCasts_S32x20000x1_S32x20000
  let main_v57 : FVec F S32x20000x1 .f32 := (extractStridedSlice S32x20000x1 ![0, 0, 0] · slices_S32x20000x2_S32x20000x1_0_0_0) main_arg2
  let main_v58 : FVec F S32x20000 .f32 := shapeCast S32x20000 main_v57 shapeCasts_S32x20000x1_S32x20000
  let main_v59 : FVec F S32x20000 .f32 := subf main_v56 main_v58
  let main_v60 : IVec S32x20000x1 32 := broadcastInDim S32x20000x1 ![0, 1] bcast_S32x20000_S32x20000x1_0_1 main_v54
  let main_v61 : IVec S32x1x20000 32 := broadcastInDim S32x1x20000 ![0, 2] bcast_S32x20000_S32x1x20000_0_2 main_v54
  let main_v62 : IVec S32x20000x20000 32 := broadcastInDim S32x20000x20000 ![0, 1, 2] bcast_S32x20000x1_S32x20000x20000_0_1_2 main_v60
  let main_v63 : IVec S32x20000x20000 32 := broadcastInDim S32x20000x20000 ![0, 1, 2] bcast_S32x1x20000_S32x20000x20000_0_1_2 main_v61
  let main_v64 : IVec S32x20000x20000 1 := cmpi .sgt main_v62 main_v63
  let main_v65 : FVec F S32x20000x1 .f32 := broadcastInDim S32x20000x1 ![0, 1] bcast_S32x20000_S32x20000x1_0_1 main_v59
  let main_v66 : FVec F S32x1x20000 .f32 := broadcastInDim S32x1x20000 ![0, 2] bcast_S32x20000_S32x1x20000_0_2 main_v59
  let main_v67 : FVec F S32x20000x20000 .f32 := broadcastInDim S32x20000x20000 ![0, 1, 2] bcast_S32x20000x1_S32x20000x20000_0_1_2 main_v65
  let main_v68 : FVec F S32x20000x20000 .f32 := broadcastInDim S32x20000x20000 ![0, 1, 2] bcast_S32x1x20000_S32x20000x20000_0_1_2 main_v66
  let main_v69 : IVec S32x20000x20000 1 := cmpf .ole main_v67 main_v68
  let main_v70 : IVec S32x20000x20000 1 := ori main_v64 main_v69
  let main_c_15 : IVec S_ 1 := constantI S_ 1 1#1
  let main_v71 : IVec S_ 1 := (fun x v => Host.reduce IntOp.andi x v reducesTo_S32x20000x20000_S_d0_1_2 h_S_) main_v70 main_c_15
  let main_c_16 : IVec S_ 32 := constantI S_ 32 4294967295#32
  let main_v72 : IVec S32x20000 32 := broadcastInDim S32x20000 ![] bcast_S_S32x20000 main_c_16
  let main_v73 : IVec S32x20000 1 := cmpi .ne main_arg7 main_v72
  let main_c_17 : IVec S_ 1 := constantI S_ 1 1#1
  let main_v74 : IVec S_ 1 := (fun x v => Host.reduce IntOp.andi x v reducesTo_S32x20000_S_d0_1 h_S_) main_v73 main_c_17
  let main_v75 : IVec S_ 1 := andi main_v71 main_v74
  fn_part4 (F := F) main_v49 main_v75

def fn_part2 {F : FTy → Type} [FloatOps F] (main_arg2 : FVec F S32x20000x2 .f32) (main_arg6 : IVec S32x20000 32) (main_arg7 : IVec S32x20000 32) (main_v22 : IVec S_ 1) (main_v32 : FVec F S32x20000 .f32) (main_v34 : IVec S32x1x20000 32) (main_v35 : IVec S32x20000x20000 32) : IVec S_ 1 :=
  let main_v36 : IVec S32x20000x20000 32 := broadcastInDim S32x20000x20000 ![0, 1, 2] bcast_S32x1x20000_S32x20000x20000_0_1_2 main_v34
  let main_v37 : IVec S32x20000x20000 1 := cmpi .sgt main_v35 main_v36
  let main_v38 : FVec F S32x20000x1 .f32 := broadcastInDim S32x20000x1 ![0, 1] bcast_S32x20000_S32x20000x1_0_1 main_v32
  let main_v39 : FVec F S32x1x20000 .f32 := broadcastInDim S32x1x20000 ![0, 2] bcast_S32x20000_S32x1x20000_0_2 main_v32
  let main_v40 : FVec F S32x20000x20000 .f32 := broadcastInDim S32x20000x20000 ![0, 1, 2] bcast_S32x20000x1_S32x20000x20000_0_1_2 main_v38
  let main_v41 : FVec F S32x20000x20000 .f32 := broadcastInDim S32x20000x20000 ![0, 1, 2] bcast_S32x1x20000_S32x20000x20000_0_1_2 main_v39
  let main_v42 : IVec S32x20000x20000 1 := cmpf .ole main_v40 main_v41
  let main_v43 : IVec S32x20000x20000 1 := ori main_v37 main_v42
  let main_c_10 : IVec S_ 1 := constantI S_ 1 1#1
  let main_v44 : IVec S_ 1 := (fun x v => Host.reduce IntOp.andi x v reducesTo_S32x20000x20000_S_d0_1_2 h_S_) main_v43 main_c_10
  let main_c_11 : IVec S_ 32 := constantI S_ 32 4294967295#32
  let main_v45 : IVec S32x20000 32 := broadcastInDim S32x20000 ![] bcast_S_S32x20000 main_c_11
  let main_v46 : IVec S32x20000 1 := cmpi .ne main_arg6 main_v45
  let main_c_12 : IVec S_ 1 := constantI S_ 1 1#1
  let main_v47 : IVec S_ 1 := (fun x v => Host.reduce IntOp.andi x v reducesTo_S32x20000_S_d0_1 h_S_) main_v46 main_c_12
  let main_v48 : IVec S_ 1 := andi main_v44 main_v47
  let main_v49 : IVec S_ 1 := andi main_v22 main_v48
  let main_c_13 : IVec S_ 32 := constantI S_ 32 0#32
  let main_v50 : IVec S32x20000 32 := broadcastInDim S32x20000 ![] bcast_S_S32x20000 main_c_13
  let main_v51 : IVec S32x20000 1 := cmpi .sge main_arg7 main_v50
  let main_c_14 : IVec S_ 32 := constantI S_ 32 2147483647#32
  let main_v52 : IVec S32x20000 32 := broadcastInDim S32x20000 ![] bcast_S_S32x20000 main_c_14
  let main_v53 : IVec S32x20000 32 := xori main_arg7 main_v52
  let main_v54 : IVec S32x20000 32 := fn_where (F := F) main_v51 main_arg7 main_v53
  fn_part3 (F := F) main_arg2 main_arg7 main_v49 main_v54

def fn_part1 {F : FTy → Type} [FloatOps F] (main_arg1 : FVec F S32x20000x2 .f32) (main_arg2 : FVec F S32x20000x2 .f32) (main_arg6 : IVec S32x20000 32) (main_arg7 : IVec S32x20000 32) (main_v12 : IVec S_ 1) (main_v15 : IVec S32x20000x2 1) (main_c_5 : IVec S_ 1) : IVec S_ 1 :=
  let main_v16 : IVec S_ 1 := (fun x v => Host.reduce IntOp.andi x v reducesTo_S32x20000x2_S_d0_1_2 h_S_) main_v15 main_c_5
  let main_v17 : FVec F S32x20000x2 .f32 := Host.absf main_arg2
  let main_cst_6 : FVec F S_ .f32 := constant S_ .f32 0x7F800000#32
  let main_v18 : FVec F S32x20000x2 .f32 := broadcastInDim S32x20000x2 ![] bcast_S_S32x20000x2 main_cst_6
  let main_v19 : IVec S32x20000x2 1 := cmpf .olt main_v17 main_v18
  let main_c_7 : IVec S_ 1 := constantI S_ 1 1#1
  let main_v20 : IVec S_ 1 := (fun x v => Host.reduce IntOp.andi x v reducesTo_S32x20000x2_S_d0_1_2 h_S_) main_v19 main_c_7
  let main_v21 : IVec S_ 1 := andi main_v16 main_v20
  let main_v22 : IVec S_ 1 := andi main_v12 main_v21
  let main_c_8 : IVec S_ 32 := constantI S_ 32 0#32
  let main_v23 : IVec S32x20000 32 := broadcastInDim S32x20000 ![] bcast_S_S32x20000 main_c_8
  let main_v24 : IVec S32x20000 1 := cmpi .sge main_arg6 main_v23
  let main_c_9 : IVec S_ 32 := constantI S_ 32 2147483647#32
  let main_v25 : IVec S32x20000 32 := broadcastInDim S32x20000 ![] bcast_S_S32x20000 main_c_9
  let main_v26 : IVec S32x20000 32 := xori main_arg6 main_v25
  let main_v27 : IVec S32x20000 32 := fn_where (F := F) main_v24 main_arg6 main_v26
  let main_v28 : FVec F S32x20000x1 .f32 := (extractStridedSlice S32x20000x1 ![0, 0, 1] · slices_S32x20000x2_S32x20000x1_0_0_1) main_arg1
  let main_v29 : FVec F S32x20000 .f32 := shapeCast S32x20000 main_v28 shapeCasts_S32x20000x1_S32x20000
  let main_v30 : FVec F S32x20000x1 .f32 := (extractStridedSlice S32x20000x1 ![0, 0, 0] · slices_S32x20000x2_S32x20000x1_0_0_0) main_arg1
  let main_v31 : FVec F S32x20000 .f32 := shapeCast S32x20000 main_v30 shapeCasts_S32x20000x1_S32x20000
  let main_v32 : FVec F S32x20000 .f32 := subf main_v29 main_v31
  let main_v33 : IVec S32x20000x1 32 := broadcastInDim S32x20000x1 ![0, 1] bcast_S32x20000_S32x20000x1_0_1 main_v27
  let main_v34 : IVec S32x1x20000 32 := broadcastInDim S32x1x20000 ![0, 2] bcast_S32x20000_S32x1x20000_0_2 main_v27
  let main_v35 : IVec S32x20000x20000 32 := broadcastInDim S32x20000x20000 ![0, 1, 2] bcast_S32x20000x1_S32x20000x20000_0_1_2 main_v33
  fn_part2 (F := F) main_arg2 main_arg6 main_arg7 main_v22 main_v32 main_v34 main_v35

def fn {F : FTy → Type} [FloatOps F] (main_arg0 : FVec F S32x20000x4 .f32) (main_arg1 : FVec F S32x20000x2 .f32) (main_arg2 : FVec F S32x20000x2 .f32) (main_arg3 : FVec F S32x20000x4 .f32) (main_arg4 : IVec S32x20000 32) (main_arg5 : IVec S32x20000 32) (main_arg6 : IVec S32x20000 32) (main_arg7 : IVec S32x20000 32) : IVec S_ 1 :=
  let main_c : IVec S_ 32 := constantI S_ 32 0#32
  let main_v0 : IVec S32x20000 32 := broadcastInDim S32x20000 ![] bcast_S_S32x20000 main_c
  let main_v1 : IVec S32x20000 1 := cmpi .sge main_arg4 main_v0
  let main_c_0 : IVec S_ 32 := constantI S_ 32 2#32
  let main_v2 : IVec S32x20000 32 := broadcastInDim S32x20000 ![] bcast_S_S32x20000 main_c_0
  let main_v3 : IVec S32x20000 1 := cmpi .slt main_arg4 main_v2
  let main_v4 : IVec S32x20000 1 := andi main_v1 main_v3
  let main_c_1 : IVec S_ 1 := constantI S_ 1 1#1
  let main_v5 : IVec S_ 1 := (fun x v => Host.reduce IntOp.andi x v reducesTo_S32x20000_S_d0_1 h_S_) main_v4 main_c_1
  let main_c_2 : IVec S_ 32 := constantI S_ 32 0#32
  let main_v6 : IVec S32x20000 32 := broadcastInDim S32x20000 ![] bcast_S_S32x20000 main_c_2
  let main_v7 : IVec S32x20000 1 := cmpi .sge main_arg5 main_v6
  let main_c_3 : IVec S_ 32 := constantI S_ 32 2#32
  let main_v8 : IVec S32x20000 32 := broadcastInDim S32x20000 ![] bcast_S_S32x20000 main_c_3
  let main_v9 : IVec S32x20000 1 := cmpi .slt main_arg5 main_v8
  let main_v10 : IVec S32x20000 1 := andi main_v7 main_v9
  let main_c_4 : IVec S_ 1 := constantI S_ 1 1#1
  let main_v11 : IVec S_ 1 := (fun x v => Host.reduce IntOp.andi x v reducesTo_S32x20000_S_d0_1 h_S_) main_v10 main_c_4
  let main_v12 : IVec S_ 1 := andi main_v5 main_v11
  let main_v13 : FVec F S32x20000x2 .f32 := Host.absf main_arg1
  let main_cst : FVec F S_ .f32 := constant S_ .f32 0x7F800000#32
  let main_v14 : FVec F S32x20000x2 .f32 := broadcastInDim S32x20000x2 ![] bcast_S_S32x20000x2 main_cst
  let main_v15 : IVec S32x20000x2 1 := cmpf .olt main_v13 main_v14
  let main_c_5 : IVec S_ 1 := constantI S_ 1 1#1
  fn_part1 (F := F) main_arg1 main_arg2 main_arg6 main_arg7 main_v12 main_v15 main_c_5
-- ==== Kernel.lean ====
abbrev S32x20000x4 : Shape := ⟨3, ![32, 20000, 4]⟩
abbrev S32x20000x2 : Shape := ⟨3, ![32, 20000, 2]⟩
abbrev S32x20000 : Shape := ⟨2, ![32, 20000]⟩
abbrev S32x20000x1 : Shape := ⟨3, ![32, 20000, 1]⟩
abbrev S32x8x2500 : Shape := ⟨3, ![32, 8, 2500]⟩
abbrev S32x4x20000 : Shape := ⟨3, ![32, 4, 20000]⟩
abbrev S32x4x8x2500 : Shape := ⟨4, ![32, 4, 8, 2500]⟩
abbrev S5 : Shape := ⟨1, ![5]⟩
abbrev S16x8x2500 : Shape := ⟨3, ![16, 8, 2500]⟩
abbrev S16x4x8x2500 : Shape := ⟨4, ![16, 4, 8, 2500]⟩
abbrev S16 : Shape := ⟨1, ![16]⟩
abbrev S16x1x1 : Shape := ⟨3, ![16, 1, 1]⟩
abbrev S1x16x8x2500 : Shape := ⟨4, ![1, 16, 8, 2500]⟩
abbrev S1 : Shape := ⟨1, ![1]⟩
abbrev S1x1x1x1 : Shape := ⟨4, ![1, 1, 1, 1]⟩
abbrev S1x16x1x1 : Shape := ⟨4, ![1, 16, 1, 1]⟩
abbrev S16x1x8x2500 : Shape := ⟨4, ![16, 1, 8, 2500]⟩
abbrev S_ : Shape := ⟨0, ![]⟩

abbrev nBuf : Space → Nat
  | .hbm => 42
  | .vmem => 20
  | .smem => 1
  | _ => 0

abbrev bufTy : (tb : Table) → Fin (tcTables nBuf tb) → BufTy
  | .hbm, ⟨0, _⟩ => ⟨S32x20000x4, .f32⟩
  | .hbm, ⟨1, _⟩ => ⟨S32x20000x2, .f32⟩
  | .hbm, ⟨2, _⟩ => ⟨S32x20000x2, .f32⟩
  | .hbm, ⟨3, _⟩ => ⟨S32x20000x4, .f32⟩
  | .hbm, ⟨4, _⟩ => ⟨S32x20000, .i32⟩
  | .hbm, ⟨5, _⟩ => ⟨S32x20000, .i32⟩
  | .hbm, ⟨6, _⟩ => ⟨S32x20000, .i32⟩
  | .hbm, ⟨7, _⟩ => ⟨S32x20000, .i32⟩
  | .hbm, ⟨8, _⟩ => ⟨S32x20000x1, .f32⟩
  | .hbm, ⟨9, _⟩ => ⟨S32x20000, .f32⟩
  | .hbm, ⟨10, _⟩ => ⟨S32x8x2500, .f32⟩
  | .hbm, ⟨11, _⟩ => ⟨S32x20000x1, .f32⟩
  | .hbm, ⟨12, _⟩ => ⟨S32x20000, .f32⟩
  | .hbm, ⟨13, _⟩ => ⟨S32x8x2500, .f32⟩
  | .hbm, ⟨14, _⟩ => ⟨S32x20000x1, .f32⟩
  | .hbm, ⟨15, _⟩ => ⟨S32x20000, .f32⟩
  | .hbm, ⟨16, _⟩ => ⟨S32x8x2500, .f32⟩
  | .hbm, ⟨17, _⟩ => ⟨S32x20000x1, .f32⟩
  | .hbm, ⟨18, _⟩ => ⟨S32x20000, .f32⟩
  | .hbm, ⟨19, _⟩ => ⟨S32x8x2500, .f32⟩
  | .hbm, ⟨20, _⟩ => ⟨S32x8x2500, .i32⟩
  | .hbm, ⟨21, _⟩ => ⟨S32x8x2500, .i32⟩
  | .hbm, ⟨22, _⟩ => ⟨S32x8x2500, .i32⟩
  | .hbm, ⟨23, _⟩ => ⟨S32x8x2500, .i32⟩
  | .hbm, ⟨24, _⟩ => ⟨S32x4x20000, .f32⟩
  | .hbm, ⟨25, _⟩ => ⟨S32x4x8x2500, .f32⟩
  | .hbm, ⟨26, _⟩ => ⟨S32x4x20000, .f32⟩
  | .hbm, ⟨27, _⟩ => ⟨S32x4x8x2500, .f32⟩
  | .hbm, ⟨28, _⟩ => ⟨S5, .f32⟩
  | .hbm, ⟨29, _⟩ => ⟨S1, .f32⟩
  | .hbm, ⟨30, _⟩ => ⟨S_, .f32⟩
  | .hbm, ⟨31, _⟩ => ⟨S1, .f32⟩
  | .hbm, ⟨32, _⟩ => ⟨S_, .f32⟩
  | .hbm, ⟨33, _⟩ => ⟨S1, .f32⟩
  | .hbm, ⟨34, _⟩ => ⟨S_, .f32⟩
  | .hbm, ⟨35, _⟩ => ⟨S_, .f32⟩
  | .hbm, ⟨36, _⟩ => ⟨S1, .f32⟩
  | .hbm, ⟨37, _⟩ => ⟨S_, .f32⟩
  | .hbm, ⟨38, _⟩ => ⟨S_, .f32⟩
  | .hbm, ⟨39, _⟩ => ⟨S1, .f32⟩
  | .hbm, ⟨40, _⟩ => ⟨S_, .f32⟩
  | .hbm, ⟨41, _⟩ => ⟨S_, .f32⟩
  | .local _ .vmem, ⟨0, _⟩ => ⟨S16x8x2500, .f32⟩
  | .local _ .vmem, ⟨1, _⟩ => ⟨S16x8x2500, .f32⟩
  | .local _ .vmem, ⟨2, _⟩ => ⟨S16x8x2500, .f32⟩
  | .local _ .vmem, ⟨3, _⟩ => ⟨S16x8x2500, .f32⟩
  | .local _ .vmem, ⟨4, _⟩ => ⟨S16x8x2500, .f32⟩
  | .local _ .vmem, ⟨5, _⟩ => ⟨S16x8x2500, .f32⟩
  | .local _ .vmem, ⟨6, _⟩ => ⟨S16x8x2500, .f32⟩
  | .local _ .vmem, ⟨7, _⟩ => ⟨S16x8x2500, .f32⟩
  | .local _ .vmem, ⟨8, _⟩ => ⟨S16x8x2500, .i32⟩
  | .local _ .vmem, ⟨9, _⟩ => ⟨S16x8x2500, .i32⟩
  | .local _ .vmem, ⟨10, _⟩ => ⟨S16x8x2500, .i32⟩
  | .local _ .vmem, ⟨11, _⟩ => ⟨S16x8x2500, .i32⟩
  | .local _ .vmem, ⟨12, _⟩ => ⟨S16x4x8x2500, .f32⟩
  | .local _ .vmem, ⟨13, _⟩ => ⟨S16x4x8x2500, .f32⟩
  | .local _ .vmem, ⟨14, _⟩ => ⟨S16x4x8x2500, .f32⟩
  | .local _ .vmem, ⟨15, _⟩ => ⟨S16x4x8x2500, .f32⟩
  | .local _ .vmem, ⟨16, _⟩ => ⟨S16x8x2500, .i32⟩
  | .local _ .vmem, ⟨17, _⟩ => ⟨S16x8x2500, .i32⟩
  | .local _ .vmem, ⟨18, _⟩ => ⟨S16x8x2500, .i32⟩
  | .local _ .vmem, ⟨19, _⟩ => ⟨S16x8x2500, .i32⟩
  | .local _ .smem, ⟨0, _⟩ => ⟨S5, .f32⟩
  | _, _ => ⟨S32x20000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .smem, ⟨0, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20

abbrev nD : Nat := 1
abbrev τ : Topo := Topo.v7x

variable {F : FTy → Type} [FloatOps F]

abbrev grid0 : Pipeline.Grid := ⟨1, ![2], ![false]⟩

@[reducible] def k0_t1_loop : Scf.Loop 32 :=
  let c0_i32_28 : BitVec 32 := 0#32
  let c31_i32 : BitVec 32 := 31#32
  let v74 : BitVec 32 := Scalar.addi c0_i32_28 c31_i32
  let c1_i32_29 : BitVec 32 := 1#32
  ⟨c0_i32_28, v74, c1_i32_29⟩
@[reducible] def k0_t2_loop : Scf.Loop 32 :=
  let c0_i32_77 : BitVec 32 := 0#32
  let c31_i32_78 : BitVec 32 := 31#32
  let v191 : BitVec 32 := Scalar.addi c0_i32_77 c31_i32_78
  let c1_i32_79 : BitVec 32 := 1#32
  ⟨c0_i32_77, v191, c1_i32_79⟩
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 2 → Memref sig .tc .vmem S16x8x2500 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x8x2500 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x8x2500 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x8x2500 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x8x2500 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x8x2500 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x4x8x2500 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x4x8x2500 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S16x8x2500 .i32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S16x8x2500 .i32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .smem S5 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ReferenceIdeal.lean ====
abbrev S32x20000x4 : Shape := ⟨3, ![32, 20000, 4]⟩
abbrev S32x20000x2 : Shape := ⟨3, ![32, 20000, 2]⟩
abbrev S32x20000 : Shape := ⟨2, ![32, 20000]⟩
abbrev S_ : Shape := ⟨0, ![]⟩
abbrev S32x20000x1 : Shape := ⟨3, ![32, 20000, 1]⟩
abbrev S32 : Shape := ⟨1, ![32]⟩
abbrev S32x1 : Shape := ⟨2, ![32, 1]⟩
abbrev S32x20000x1x1 : Shape := ⟨4, ![32, 20000, 1, 1]⟩
abbrev S1 : Shape := ⟨1, ![1]⟩
abbrev S1x1x1x1 : Shape := ⟨4, ![1, 1, 1, 1]⟩

abbrev nBuf : Space → Nat
  | .hbm => 245
  | .vmem => 0
  | .smem => 0
  | _ => 0

abbrev hbmTy0_0 (i : Nat) : BufTy := match i % 128 with
  | 0 => ⟨S32x20000x4, .f32⟩
  | 1 => ⟨S32x20000x2, .f32⟩
  | 2 => ⟨S32x20000x2, .f32⟩
  | 3 => ⟨S32x20000x4, .f32⟩
  | 4 => ⟨S32x20000, .i32⟩
  | 5 => ⟨S32x20000, .i32⟩
  | 6 => ⟨S32x20000, .i32⟩
  | 7 => ⟨S32x20000, .i32⟩
  | 8 => ⟨S_, .f32⟩
  | 9 => ⟨S32x20000, .f32⟩
  | 10 => ⟨S_, .f32⟩
  | 11 => ⟨S32x20000, .f32⟩
  | 12 => ⟨S32x20000, .f32⟩
  | 13 => ⟨S32x20000x1, .f32⟩
  | 14 => ⟨S32x20000x2, .f32⟩
  | 15 => ⟨S32x20000x2, .f32⟩
  | 16 => ⟨S32x20000x2, .f32⟩
  | 17 => ⟨S_, .f32⟩
  | 18 => ⟨S32x20000, .f32⟩
  | 19 => ⟨S32x20000x1, .f32⟩
  | 20 => ⟨S32x20000x1, .f32⟩
  | 21 => ⟨S32x20000x2, .f32⟩
  | 22 => ⟨S32x20000x2, .f32⟩
  | 23 => ⟨S32x20000x1, .f32⟩
  | 24 => ⟨S32x20000, .f32⟩
  | 25 => ⟨S32x20000, .f32⟩
  | 26 => ⟨S_, .i32⟩
  | 27 => ⟨S32x20000, .i32⟩
  | 28 => ⟨S32x20000, .i1⟩
  | 29 => ⟨S32x20000, .i32⟩
  | 30 => ⟨S_, .i32⟩
  | 31 => ⟨S32, .i32⟩
  | 32 => ⟨S32x1, .i32⟩
  | 33 => ⟨S_, .i32⟩
  | 34 => ⟨S32x1, .i32⟩
  | 35 => ⟨S32x1, .i1⟩
  | 36 => ⟨S_, .i32⟩
  | 37 => ⟨S_, .i32⟩
  | 38 => ⟨S32x1, .i32⟩
  | 39 => ⟨S32x1, .i32⟩
  | 40 => ⟨S_, .i32⟩
  | 41 => ⟨S32x1, .i32⟩
  | 42 => ⟨S32x1, .i32⟩
  | 43 => ⟨S_, .f32⟩
  | 44 => ⟨S_, .f32⟩
  | 45 => ⟨S32x20000, .f32⟩
  | 46 => ⟨S32x20000, .f32⟩
  | 47 => ⟨S32x20000, .f32⟩
  | 48 => ⟨S32x20000, .i32⟩
  | 49 => ⟨S32x20000, .f32⟩
  | 50 => ⟨S32x20000, .i32⟩
  | 51 => ⟨S32x20000, .i32⟩
  | 52 => ⟨S32x20000, .i32⟩
  | 53 => ⟨S32x20000, .i32⟩
  | 54 => ⟨S32x20000, .i32⟩
  | 55 => ⟨S32x20000, .i1⟩
  | 56 => ⟨S32x20000, .i1⟩
  | 57 => ⟨S_, .i32⟩
  | 58 => ⟨S_, .i32⟩
  | 59 => ⟨S_, .f32⟩
  | 60 => ⟨S32x20000, .f32⟩
  | 61 => ⟨S_, .f32⟩
  | 62 => ⟨S32x20000, .f32⟩
  | 63 => ⟨S32x20000, .f32⟩
  | 64 => ⟨S32x20000x1, .f32⟩
  | 65 => ⟨S32x20000x2, .f32⟩
  | 66 => ⟨S32x20000x2, .f32⟩
  | 67 => ⟨S32x20000x2, .f32⟩
  | 68 => ⟨S_, .f32⟩
  | 69 => ⟨S32x20000, .f32⟩
  | 70 => ⟨S32x20000x1, .f32⟩
  | 71 => ⟨S32x20000x1, .f32⟩
  | 72 => ⟨S32x20000x2, .f32⟩
  | 73 => ⟨S32x20000x2, .f32⟩
  | 74 => ⟨S32x20000x1, .f32⟩
  | 75 => ⟨S32x20000, .f32⟩
  | 76 => ⟨S32x20000, .f32⟩
  | 77 => ⟨S_, .i32⟩
  | 78 => ⟨S32x20000, .i32⟩
  | 79 => ⟨S32x20000, .i1⟩
  | 80 => ⟨S32x20000, .i32⟩
  | 81 => ⟨S_, .i32⟩
  | 82 => ⟨S32, .i32⟩
  | 83 => ⟨S32x1, .i32⟩
  | 84 => ⟨S_, .i32⟩
  | 85 => ⟨S32x1, .i32⟩
  | 86 => ⟨S32x1, .i1⟩
  | 87 => ⟨S_, .i32⟩
  | 88 => ⟨S_, .i32⟩
  | 89 => ⟨S32x1, .i32⟩
  | 90 => ⟨S32x1, .i32⟩
  | 91 => ⟨S_, .i32⟩
  | 92 => ⟨S32x1, .i32⟩
  | 93 => ⟨S32x1, .i32⟩
  | 94 => ⟨S_, .f32⟩
  | 95 => ⟨S_, .f32⟩
  | 96 => ⟨S32x20000, .f32⟩
  | 97 => ⟨S32x20000, .f32⟩
  | 98 => ⟨S32x20000, .f32⟩
  | 99 => ⟨S32x20000, .i32⟩
  | 100 => ⟨S32x20000, .f32⟩
  | 101 => ⟨S32x20000, .i32⟩
  | 102 => ⟨S32x20000, .i32⟩
  | 103 => ⟨S32x20000, .i32⟩
  | 104 => ⟨S32x20000, .i32⟩
  | 105 => ⟨S32x20000, .i32⟩
  | 106 => ⟨S32x20000, .i1⟩
  | 107 => ⟨S32x20000, .i1⟩
  | 108 => ⟨S_, .i32⟩
  | 109 => ⟨S_, .i32⟩
  | 110 => ⟨S_, .f32⟩
  | 111 => ⟨S32x20000, .f32⟩
  | 112 => ⟨S_, .f32⟩
  | 113 => ⟨S32x20000, .f32⟩
  | 114 => ⟨S32x20000, .f32⟩
  | 115 => ⟨S32x20000x1, .f32⟩
  | 116 => ⟨S32x20000x2, .f32⟩
  | 117 => ⟨S32x20000x2, .f32⟩
  | 118 => ⟨S32x20000x2, .f32⟩
  | 119 => ⟨S_, .f32⟩
  | 120 => ⟨S32x20000, .f32⟩
  | 121 => ⟨S32x20000x1, .f32⟩
  | 122 => ⟨S32x20000x1, .f32⟩
  | 123 => ⟨S32x20000x2, .f32⟩
  | 124 => ⟨S32x20000x2, .f32⟩
  | 125 => ⟨S32x20000x1, .i32⟩
  | 126 => ⟨S_, .i32⟩
  | 127 => ⟨S32x20000x1, .i32⟩
  | _ => ⟨S32x20000x4, .f32⟩

abbrev hbmTy0_1 (i : Nat) : BufTy := match i % 128 with
  | 0 => ⟨S32x20000x1, .i1⟩
  | 1 => ⟨S_, .i32⟩
  | 2 => ⟨S32x20000x1, .i32⟩
  | 3 => ⟨S32x20000x1, .i32⟩
  | 4 => ⟨S32x20000x1, .i32⟩
  | 5 => ⟨S32x20000x1x1, .i32⟩
  | 6 => ⟨S1, .i32⟩
  | 7 => ⟨S_, .i32⟩
  | 8 => ⟨S32x20000x1x1, .i32⟩
  | 9 => ⟨S32x20000x1x1, .i1⟩
  | 10 => ⟨S1x1x1x1, .i32⟩
  | 11 => ⟨S32x20000x1x1, .i32⟩
  | 12 => ⟨S32x20000x1x1, .i1⟩
  | 13 => ⟨S32x20000x1x1, .i1⟩
  | 14 => ⟨S_, .i1⟩
  | 15 => ⟨S32x20000x1, .i1⟩
  | 16 => ⟨S32x20000x1, .f32⟩
  | 17 => ⟨S_, .f32⟩
  | 18 => ⟨S32x20000x1, .f32⟩
  | 19 => ⟨S32x20000x1, .f32⟩
  | 20 => ⟨S32x20000, .f32⟩
  | 21 => ⟨S32x20000, .f32⟩
  | 22 => ⟨S_, .f32⟩
  | 23 => ⟨S32x20000, .f32⟩
  | 24 => ⟨S32x20000, .f32⟩
  | 25 => ⟨S_, .f32⟩
  | 26 => ⟨S32x20000, .f32⟩
  | 27 => ⟨S32x20000, .f32⟩
  | 28 => ⟨S_, .f32⟩
  | 29 => ⟨S32x20000, .f32⟩
  | 30 => ⟨S32x20000, .f32⟩
  | 31 => ⟨S32x20000, .f32⟩
  | 32 => ⟨S32x20000, .f32⟩
  | 33 => ⟨S32x20000, .f32⟩
  | 34 => ⟨S_, .f32⟩
  | 35 => ⟨S_, .f32⟩
  | 36 => ⟨S_, .f32⟩
  | 37 => ⟨S32x20000, .f32⟩
  | 38 => ⟨S_, .f32⟩
  | 39 => ⟨S32x20000, .f32⟩
  | 40 => ⟨S32x20000, .f32⟩
  | 41 => ⟨S32x20000x1, .f32⟩
  | 42 => ⟨S32x20000x2, .f32⟩
  | 43 => ⟨S32x20000x2, .f32⟩
  | 44 => ⟨S32x20000x2, .f32⟩
  | 45 => ⟨S_, .f32⟩
  | 46 => ⟨S32x20000, .f32⟩
  | 47 => ⟨S32x20000x1, .f32⟩
  | 48 => ⟨S32x20000x1, .f32⟩
  | 49 => ⟨S32x20000x2, .f32⟩
  | 50 => ⟨S32x20000x2, .f32⟩
  | 51 => ⟨S32x20000x1, .i32⟩
  | 52 => ⟨S_, .i32⟩
  | 53 => ⟨S32x20000x1, .i32⟩
  | 54 => ⟨S32x20000x1, .i1⟩
  | 55 => ⟨S_, .i32⟩
  | 56 => ⟨S32x20000x1, .i32⟩
  | 57 => ⟨S32x20000x1, .i32⟩
  | 58 => ⟨S32x20000x1, .i32⟩
  | 59 => ⟨S32x20000x1x1, .i32⟩
  | 60 => ⟨S1, .i32⟩
  | 61 => ⟨S_, .i32⟩
  | 62 => ⟨S32x20000x1x1, .i32⟩
  | 63 => ⟨S32x20000x1x1, .i1⟩
  | 64 => ⟨S1x1x1x1, .i32⟩
  | 65 => ⟨S32x20000x1x1, .i32⟩
  | 66 => ⟨S32x20000x1x1, .i1⟩
  | 67 => ⟨S32x20000x1x1, .i1⟩
  | 68 => ⟨S_, .i1⟩
  | 69 => ⟨S32x20000x1, .i1⟩
  | 70 => ⟨S32x20000x1, .f32⟩
  | 71 => ⟨S_, .f32⟩
  | 72 => ⟨S32x20000x1, .f32⟩
  | 73 => ⟨S32x20000x1, .f32⟩
  | 74 => ⟨S32x20000, .f32⟩
  | 75 => ⟨S32x20000, .f32⟩
  | 76 => ⟨S_, .f32⟩
  | 77 => ⟨S32x20000, .f32⟩
  | 78 => ⟨S32x20000, .f32⟩
  | 79 => ⟨S_, .f32⟩
  | 80 => ⟨S32x20000, .f32⟩
  | 81 => ⟨S32x20000, .f32⟩
  | 82 => ⟨S_, .f32⟩
  | 83 => ⟨S32x20000, .f32⟩
  | 84 => ⟨S32x20000, .f32⟩
  | 85 => ⟨S32x20000, .f32⟩
  | 86 => ⟨S32x20000, .f32⟩
  | 87 => ⟨S32x20000, .f32⟩
  | 88 => ⟨S_, .f32⟩
  | 89 => ⟨S_, .f32⟩
  | 90 => ⟨S_, .i32⟩
  | 91 => ⟨S32x20000, .i32⟩
  | 92 => ⟨S32x20000, .i1⟩
  | 93 => ⟨S32x20000x4, .f32⟩
  | 94 => ⟨S32x20000x4, .f32⟩
  | 95 => ⟨S_, .f32⟩
  | 96 => ⟨S32x20000x4, .f32⟩
  | 97 => ⟨S32x20000x4, .i1⟩
  | 98 => ⟨S_, .f32⟩
  | 99 => ⟨S32x20000x4, .f32⟩
  | 100 => ⟨S32x20000x4, .f32⟩
  | 101 => ⟨S32x20000x4, .f32⟩
  | 102 => ⟨S_, .f32⟩
  | 103 => ⟨S32x20000x4, .f32⟩
  | 104 => ⟨S32x20000x4, .f32⟩
  | 105 => ⟨S32x20000x4, .f32⟩
  | 106 => ⟨S32x20000x1, .i1⟩
  | 107 => ⟨S32x20000x1, .f32⟩
  | 108 => ⟨S32x20000x4, .f32⟩
  | 109 => ⟨S32x20000x4, .f32⟩
  | 110 => ⟨S_, .f32⟩
  | 111 => ⟨S_, .f32⟩
  | 112 => ⟨S_, .f32⟩
  | 113 => ⟨S_, .f32⟩
  | 114 => ⟨S_, .f32⟩
  | 115 => ⟨S_, .f32⟩
  | 116 => ⟨S_, .f32⟩
  | _ => ⟨S32x20000x4, .f32⟩

abbrev hbmTy (i : Nat) : BufTy := match i / 128 with
  | 0 => hbmTy0_0 i
  | 1 => hbmTy0_1 i
  | _ => ⟨S32x20000x4, .f32⟩

abbrev bufTy : (tb : Table) → Fin (tcTables nBuf tb) → BufTy
  | .hbm, ⟨i, _⟩ => hbmTy i
  | _, _ => ⟨S32x20000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_cst : Ref sig .tc := ⟨.hbm, 8, rfl⟩
abbrev main_call0_v0 : Ref sig .tc := ⟨.hbm, 9, rfl⟩
abbrev main_call0_cst_0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_cst_1 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_c : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_c_0 : Ref sig .tc := ⟨.hbm, 30, rfl⟩
abbrev main_v7 : Ref sig .tc := ⟨.hbm, 31, rfl⟩
abbrev main_v8 : Ref sig .tc := ⟨.hbm, 32, rfl⟩
abbrev main_c_1 : Ref sig .tc := ⟨.hbm, 33, rfl⟩
abbrev main_v9 : Ref sig .tc := ⟨.hbm, 34, rfl⟩
abbrev main_v10 : Ref sig .tc := ⟨.hbm, 35, rfl⟩
abbrev main_c_2 : Ref sig .tc := ⟨.hbm, 36, rfl⟩
abbrev main_call1_v0 : Ref sig .tc := ⟨.hbm, 37, rfl⟩
abbrev main_call1_v1 : Ref sig .tc := ⟨.hbm, 38, rfl⟩
abbrev main_v11 : Ref sig .tc := ⟨.hbm, 39, rfl⟩
abbrev main_c_3 : Ref sig .tc := ⟨.hbm, 40, rfl⟩
abbrev main_v12 : Ref sig .tc := ⟨.hbm, 41, rfl⟩
abbrev main_v13 : Ref sig .tc := ⟨.hbm, 42, rfl⟩
abbrev main_cst : Ref sig .tc := ⟨.hbm, 43, rfl⟩
abbrev main_call2_v0 : Ref sig .tc := ⟨.hbm, 44, rfl⟩
abbrev main_call2_v1 : Ref sig .tc := ⟨.hbm, 45, rfl⟩
abbrev main_v14 : Ref sig .tc := ⟨.hbm, 46, rfl⟩
abbrev main_v15 : Ref sig .tc := ⟨.hbm, 47, rfl⟩
abbrev main_call3_v0 : Ref sig .tc := ⟨.hbm, 48, rfl⟩
abbrev main_call3_v1_0 : Ref sig .tc := ⟨.hbm, 49, rfl⟩
abbrev main_v16 : Ref sig .tc := ⟨.hbm, 50, rfl⟩
abbrev main_call4_v0 : Ref sig .tc := ⟨.hbm, 51, rfl⟩
abbrev main_call4_v1_0 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_c_4 : Ref sig .tc := ⟨.hbm, 57, rfl⟩
abbrev main_v21 : Ref sig .tc := ⟨.hbm, 58, rfl⟩
abbrev main_call5_cst : Ref sig .tc := ⟨.hbm, 59, rfl⟩
abbrev main_call5_v0 : Ref sig .tc := ⟨.hbm, 60, rfl⟩
abbrev main_call5_cst_0 : Ref sig .tc := ⟨.hbm, 61, rfl⟩
abbrev main_call5_v1 : Ref sig .tc := ⟨.hbm, 62, rfl⟩
abbrev main_call5_v2 : Ref sig .tc := ⟨.hbm, 63, rfl⟩
abbrev main_call5_v3 : Ref sig .tc := ⟨.hbm, 64, rfl⟩
abbrev main_call5_v4 : Ref sig .tc := ⟨.hbm, 65, rfl⟩
abbrev main_call5_v5 : Ref sig .tc := ⟨.hbm, 66, rfl⟩
abbrev main_call5_v6 : Ref sig .tc := ⟨.hbm, 67, rfl⟩
abbrev main_call5_cst_1 : Ref sig .tc := ⟨.hbm, 68, rfl⟩
abbrev main_call5_v7 : Ref sig .tc := ⟨.hbm, 69, rfl⟩
abbrev main_call5_v8 : Ref sig .tc := ⟨.hbm, 70, rfl⟩
abbrev main_call5_v9 : Ref sig .tc := ⟨.hbm, 71, rfl⟩
abbrev main_call5_v10 : Ref sig .tc := ⟨.hbm, 72, rfl⟩
abbrev main_v22 : Ref sig .tc := ⟨.hbm, 73, rfl⟩
abbrev main_v23 : Ref sig .tc := ⟨.hbm, 74, rfl⟩
abbrev main_v24 : Ref sig .tc := ⟨.hbm, 75, rfl⟩
abbrev main_v25 : Ref sig .tc := ⟨.hbm, 76, rfl⟩
abbrev main_c_5 : Ref sig .tc := ⟨.hbm, 77, rfl⟩
abbrev main_v26 : Ref sig .tc := ⟨.hbm, 78, rfl⟩
abbrev main_v27 : Ref sig .tc := ⟨.hbm, 79, rfl⟩
abbrev main_v28 : Ref sig .tc := ⟨.hbm, 80, rfl⟩
abbrev main_c_6 : Ref sig .tc := ⟨.hbm, 81, rfl⟩
abbrev main_v29 : Ref sig .tc := ⟨.hbm, 82, rfl⟩
abbrev main_v30 : Ref sig .tc := ⟨.hbm, 83, rfl⟩
abbrev main_c_7 : Ref sig .tc := ⟨.hbm, 84, rfl⟩
abbrev main_v31 : Ref sig .tc := ⟨.hbm, 85, rfl⟩
abbrev main_v32 : Ref sig .tc := ⟨.hbm, 86, rfl⟩
abbrev main_c_8 : Ref sig .tc := ⟨.hbm, 87, rfl⟩
abbrev main_call6_v0 : Ref sig .tc := ⟨.hbm, 88, rfl⟩
abbrev main_call6_v1 : Ref sig .tc := ⟨.hbm, 89, rfl⟩
abbrev main_v33 : Ref sig .tc := ⟨.hbm, 90, rfl⟩
abbrev main_c_9 : Ref sig .tc := ⟨.hbm, 91, rfl⟩
abbrev main_v34 : Ref sig .tc := ⟨.hbm, 92, rfl⟩
abbrev main_v35 : Ref sig .tc := ⟨.hbm, 93, rfl⟩
abbrev main_cst_10 : Ref sig .tc := ⟨.hbm, 94, rfl⟩
abbrev main_call7_v0 : Ref sig .tc := ⟨.hbm, 95, rfl⟩
abbrev main_call7_v1 : Ref sig .tc := ⟨.hbm, 96, rfl⟩
abbrev main_v36 : Ref sig .tc := ⟨.hbm, 97, rfl⟩
abbrev main_v37 : Ref sig .tc := ⟨.hbm, 98, rfl⟩
abbrev main_call8_v0 : Ref sig .tc := ⟨.hbm, 99, rfl⟩
abbrev main_call8_v1_0 : Ref sig .tc := ⟨.hbm, 100, rfl⟩
abbrev main_v38 : Ref sig .tc := ⟨.hbm, 101, rfl⟩
abbrev main_call9_v0 : Ref sig .tc := ⟨.hbm, 102, rfl⟩
abbrev main_call9_v1_0 : Ref sig .tc := ⟨.hbm, 103, rfl⟩
abbrev main_v39 : Ref sig .tc := ⟨.hbm, 104, rfl⟩
abbrev main_v40 : Ref sig .tc := ⟨.hbm, 105, rfl⟩
abbrev main_v41 : Ref sig .tc := ⟨.hbm, 106, rfl⟩
abbrev main_v42 : Ref sig .tc := ⟨.hbm, 107, rfl⟩
abbrev main_c_11 : Ref sig .tc := ⟨.hbm, 108, rfl⟩
abbrev main_v43 : Ref sig .tc := ⟨.hbm, 109, rfl⟩
abbrev main_call10_cst : Ref sig .tc := ⟨.hbm, 110, rfl⟩
abbrev main_call10_v0 : Ref sig .tc := ⟨.hbm, 111, rfl⟩
abbrev main_call10_cst_0 : Ref sig .tc := ⟨.hbm, 112, rfl⟩
abbrev main_call10_v1 : Ref sig .tc := ⟨.hbm, 113, rfl⟩
abbrev main_call10_v2 : Ref sig .tc := ⟨.hbm, 114, rfl⟩
abbrev main_call10_v3 : Ref sig .tc := ⟨.hbm, 115, rfl⟩
abbrev main_call10_v4 : Ref sig .tc := ⟨.hbm, 116, rfl⟩
abbrev main_call10_v5 : Ref sig .tc := ⟨.hbm, 117, rfl⟩
abbrev main_call10_v6 : Ref sig .tc := ⟨.hbm, 118, rfl⟩
abbrev main_call10_cst_1 : Ref sig .tc := ⟨.hbm, 119, rfl⟩
abbrev main_call10_v7 : Ref sig .tc := ⟨.hbm, 120, rfl⟩
abbrev main_call10_v8 : Ref sig .tc := ⟨.hbm, 121, rfl⟩
abbrev main_call10_v9 : Ref sig .tc := ⟨.hbm, 122, rfl⟩
abbrev main_call10_v10 : Ref sig .tc := ⟨.hbm, 123, rfl⟩
abbrev main_v44 : Ref sig .tc := ⟨.hbm, 124, rfl⟩
abbrev main_v45 : Ref sig .tc := ⟨.hbm, 125, rfl⟩
abbrev main_call11_c : Ref sig .tc := ⟨.hbm, 126, rfl⟩
abbrev main_call11_v0 : Ref sig .tc := ⟨.hbm, 127, rfl⟩
abbrev main_call11_v1 : Ref sig .tc := ⟨.hbm, 128, rfl⟩
abbrev main_call11_c_0 : Ref sig .tc := ⟨.hbm, 129, rfl⟩
abbrev main_call11_v2 : Ref sig .tc := ⟨.hbm, 130, rfl⟩
abbrev main_call11_v3 : Ref sig .tc := ⟨.hbm, 131, rfl⟩
abbrev main_call11_v4 : Ref sig .tc := ⟨.hbm, 132, rfl⟩
abbrev main_call11_v5 : Ref sig .tc := ⟨.hbm, 133, rfl⟩
abbrev main_call11_c_1 : Ref sig .tc := ⟨.hbm, 134, rfl⟩
abbrev main_call11_c_2 : Ref sig .tc := ⟨.hbm, 135, rfl⟩
abbrev main_call11_v6 : Ref sig .tc := ⟨.hbm, 136, rfl⟩
abbrev main_call11_v7 : Ref sig .tc := ⟨.hbm, 137, rfl⟩
abbrev main_call11_v8 : Ref sig .tc := ⟨.hbm, 138, rfl⟩
abbrev main_call11_v9 : Ref sig .tc := ⟨.hbm, 139, rfl⟩
abbrev main_call11_v10 : Ref sig .tc := ⟨.hbm, 140, rfl⟩
abbrev main_call11_v11 : Ref sig .tc := ⟨.hbm, 141, rfl⟩
abbrev main_call11_c_3 : Ref sig .tc := ⟨.hbm, 142, rfl⟩
abbrev main_call11_v12 : Ref sig .tc := ⟨.hbm, 143, rfl⟩
abbrev main_call11_v13 : Ref sig .tc := ⟨.hbm, 144, rfl⟩
abbrev main_call11_cst : Ref sig .tc := ⟨.hbm, 145, rfl⟩
abbrev main_call11_v14 : Ref sig .tc := ⟨.hbm, 146, rfl⟩
abbrev main_v46 : Ref sig .tc := ⟨.hbm, 147, rfl⟩
abbrev main_v47 : Ref sig .tc := ⟨.hbm, 148, rfl⟩
abbrev main_v48 : Ref sig .tc := ⟨.hbm, 149, rfl⟩
abbrev main_cst_12 : Ref sig .tc := ⟨.hbm, 150, rfl⟩
abbrev main_v49 : Ref sig .tc := ⟨.hbm, 151, rfl⟩
abbrev main_v50 : Ref sig .tc := ⟨.hbm, 152, rfl⟩
abbrev main_cst_13 : Ref sig .tc := ⟨.hbm, 153, rfl⟩
abbrev main_v51 : Ref sig .tc := ⟨.hbm, 154, rfl⟩
abbrev main_v52 : Ref sig .tc := ⟨.hbm, 155, rfl⟩
abbrev main_cst_14 : Ref sig .tc := ⟨.hbm, 156, rfl⟩
abbrev main_v53 : Ref sig .tc := ⟨.hbm, 157, rfl⟩
abbrev main_v54 : Ref sig .tc := ⟨.hbm, 158, rfl⟩
abbrev main_v55 : Ref sig .tc := ⟨.hbm, 159, rfl⟩
abbrev main_v56 : Ref sig .tc := ⟨.hbm, 160, rfl⟩
abbrev main_v57 : Ref sig .tc := ⟨.hbm, 161, rfl⟩
abbrev main_cst_15 : Ref sig .tc := ⟨.hbm, 162, rfl⟩
abbrev main_v58 : Ref sig .tc := ⟨.hbm, 163, rfl⟩
abbrev main_call12_cst : Ref sig .tc := ⟨.hbm, 164, rfl⟩
abbrev main_call12_v0 : Ref sig .tc := ⟨.hbm, 165, rfl⟩
abbrev main_call12_cst_0 : Ref sig .tc := ⟨.hbm, 166, rfl⟩
abbrev main_call12_v1 : Ref sig .tc := ⟨.hbm, 167, rfl⟩
abbrev main_call12_v2 : Ref sig .tc := ⟨.hbm, 168, rfl⟩
abbrev main_call12_v3 : Ref sig .tc := ⟨.hbm, 169, rfl⟩
abbrev main_call12_v4 : Ref sig .tc := ⟨.hbm, 170, rfl⟩
abbrev main_call12_v5 : Ref sig .tc := ⟨.hbm, 171, rfl⟩
abbrev main_call12_v6 : Ref sig .tc := ⟨.hbm, 172, rfl⟩
abbrev main_call12_cst_1 : Ref sig .tc := ⟨.hbm, 173, rfl⟩
abbrev main_call12_v7 : Ref sig .tc := ⟨.hbm, 174, rfl⟩
abbrev main_call12_v8 : Ref sig .tc := ⟨.hbm, 175, rfl⟩
abbrev main_call12_v9 : Ref sig .tc := ⟨.hbm, 176, rfl⟩
abbrev main_call12_v10 : Ref sig .tc := ⟨.hbm, 177, rfl⟩
abbrev main_v59 : Ref sig .tc := ⟨.hbm, 178, rfl⟩
abbrev main_v60 : Ref sig .tc := ⟨.hbm, 179, rfl⟩
abbrev main_call13_c : Ref sig .tc := ⟨.hbm, 180, rfl⟩
abbrev main_call13_v0 : Ref sig .tc := ⟨.hbm, 181, rfl⟩
abbrev main_call13_v1 : Ref sig .tc := ⟨.hbm, 182, rfl⟩
abbrev main_call13_c_0 : Ref sig .tc := ⟨.hbm, 183, rfl⟩
abbrev main_call13_v2 : Ref sig .tc := ⟨.hbm, 184, rfl⟩
abbrev main_call13_v3 : Ref sig .tc := ⟨.hbm, 185, rfl⟩
abbrev main_call13_v4 : Ref sig .tc := ⟨.hbm, 186, rfl⟩
abbrev main_call13_v5 : Ref sig .tc := ⟨.hbm, 187, rfl⟩
abbrev main_call13_c_1 : Ref sig .tc := ⟨.hbm, 188, rfl⟩
abbrev main_call13_c_2 : Ref sig .tc := ⟨.hbm, 189, rfl⟩
abbrev main_call13_v6 : Ref sig .tc := ⟨.hbm, 190, rfl⟩
abbrev main_call13_v7 : Ref sig .tc := ⟨.hbm, 191, rfl⟩
abbrev main_call13_v8 : Ref sig .tc := ⟨.hbm, 192, rfl⟩
abbrev main_call13_v9 : Ref sig .tc := ⟨.hbm, 193, rfl⟩
abbrev main_call13_v10 : Ref sig .tc := ⟨.hbm, 194, rfl⟩
abbrev main_call13_v11 : Ref sig .tc := ⟨.hbm, 195, rfl⟩
abbrev main_call13_c_3 : Ref sig .tc := ⟨.hbm, 196, rfl⟩
abbrev main_call13_v12 : Ref sig .tc := ⟨.hbm, 197, rfl⟩
abbrev main_call13_v13 : Ref sig .tc := ⟨.hbm, 198, rfl⟩
abbrev main_call13_cst : Ref sig .tc := ⟨.hbm, 199, rfl⟩
abbrev main_call13_v14 : Ref sig .tc := ⟨.hbm, 200, rfl⟩
abbrev main_v61 : Ref sig .tc := ⟨.hbm, 201, rfl⟩
abbrev main_v62 : Ref sig .tc := ⟨.hbm, 202, rfl⟩
abbrev main_v63 : Ref sig .tc := ⟨.hbm, 203, rfl⟩
abbrev main_cst_16 : Ref sig .tc := ⟨.hbm, 204, rfl⟩
abbrev main_v64 : Ref sig .tc := ⟨.hbm, 205, rfl⟩
abbrev main_v65 : Ref sig .tc := ⟨.hbm, 206, rfl⟩
abbrev main_cst_17 : Ref sig .tc := ⟨.hbm, 207, rfl⟩
abbrev main_v66 : Ref sig .tc := ⟨.hbm, 208, rfl⟩
abbrev main_v67 : Ref sig .tc := ⟨.hbm, 209, rfl⟩
abbrev main_cst_18 : Ref sig .tc := ⟨.hbm, 210, rfl⟩
abbrev main_v68 : Ref sig .tc := ⟨.hbm, 211, rfl⟩
abbrev main_v69 : Ref sig .tc := ⟨.hbm, 212, rfl⟩
abbrev main_v70 : Ref sig .tc := ⟨.hbm, 213, rfl⟩
abbrev main_v71 : Ref sig .tc := ⟨.hbm, 214, rfl⟩
abbrev main_v72 : Ref sig .tc := ⟨.hbm, 215, rfl⟩
abbrev main_cst_19 : Ref sig .tc := ⟨.hbm, 216, rfl⟩
abbrev main_v73 : Ref sig .tc := ⟨.hbm, 217, rfl⟩
abbrev main_c_20 : Ref sig .tc := ⟨.hbm, 218, rfl⟩
abbrev main_v74 : Ref sig .tc := ⟨.hbm, 219, rfl⟩
abbrev main_v75 : Ref sig .tc := ⟨.hbm, 220, rfl⟩
abbrev main_v76 : Ref sig .tc := ⟨.hbm, 221, rfl⟩
abbrev main_v77 : Ref sig .tc := ⟨.hbm, 222, rfl⟩
abbrev main_cst_21 : Ref sig .tc := ⟨.hbm, 223, rfl⟩
abbrev main_v78 : Ref sig .tc := ⟨.hbm, 224, rfl⟩
abbrev main_v79 : Ref sig .tc := ⟨.hbm, 225, rfl⟩
abbrev main_cst_22 : Ref sig .tc := ⟨.hbm, 226, rfl⟩
abbrev main_v80 : Ref sig .tc := ⟨.hbm, 227, rfl⟩
abbrev main_v81 : Ref sig .tc := ⟨.hbm, 228, rfl⟩
abbrev main_v82 : Ref sig .tc := ⟨.hbm, 229, rfl⟩
abbrev main_cst_23 : Ref sig .tc := ⟨.hbm, 230, rfl⟩
abbrev main_v83 : Ref sig .tc := ⟨.hbm, 231, rfl⟩
abbrev main_v84 : Ref sig .tc := ⟨.hbm, 232, rfl⟩
abbrev main_v85 : Ref sig .tc := ⟨.hbm, 233, rfl⟩
abbrev main_v86 : Ref sig .tc := ⟨.hbm, 234, rfl⟩
abbrev main_v87 : Ref sig .tc := ⟨.hbm, 235, rfl⟩
abbrev main_v88 : Ref sig .tc := ⟨.hbm, 236, rfl⟩
abbrev main_v89 : Ref sig .tc := ⟨.hbm, 237, rfl⟩
abbrev main_cst_24 : Ref sig .tc := ⟨.hbm, 238, rfl⟩
abbrev main_v90 : Ref sig .tc := ⟨.hbm, 239, rfl⟩
abbrev main_v91 : Ref sig .tc := ⟨.hbm, 240, rfl⟩
abbrev main_v92 : Ref sig .tc := ⟨.hbm, 241, rfl⟩
abbrev main_v93 : Ref sig .tc := ⟨.hbm, 242, rfl⟩
abbrev main_v94 : Ref sig .tc := ⟨.hbm, 243, rfl⟩
abbrev main_v95 : Ref sig .tc := ⟨.hbm, 244, rfl⟩

abbrev nD : Nat := 1
abbrev τ : Topo := Topo.v7x

variable {F : FTy → Type} [FloatOps F]
-- ==== Proof.Frames.lean ====
/- Every program of the claim ends, from any memory and with zero counters, with its arguments unchanged and every counter back
   at zero; and the facts about shapes the precondition's function states. -/
module

public import proofs.«01_k».proof.Defs
public import proofs.«01_k».proof.Proof.Gen.Kernel.Frame
public import proofs.«01_k».proof.Proof.Gen.KernelIdeal.Frame
public import proofs.«01_k».proof.Proof.Gen.ReferenceIdeal
public import proofs.«01_k».proof.Proof.Gen.ReferenceIdeal.Run
public import Idealize.ShloMosaic.Lib.StableHlo
public import Idealize.ShloMosaic.Lib.Claim

@[expose] public section

noncomputable section

namespace Cert.Own

open Idealize.ShloMosaic Idealize.SL.Sem

/-- The facts about shapes that the precondition's function takes. -/
instance preFacts : Cert.Pre_in_range.Facts where
  bcast_S_S32x20000 := by decide
  reducesTo_S32x20000_S_d0_1 := by decide
  h_S_ := by decide
  bcast_S_S32x20000x2 := by decide
  reducesTo_S32x20000x2_S_d0_1_2 := by decide
  slices_S32x20000x2_S32x20000x1_0_0_1 := by decide
  shapeCasts_S32x20000x1_S32x20000 := by decide
  slices_S32x20000x2_S32x20000x1_0_0_0 := by decide
  bcast_S32x20000_S32x20000x1_0_1 := by decide
  bcast_S32x20000_S32x1x20000_0_2 := by decide
  bcast_S32x20000x1_S32x20000x20000_0_1_2 := by decide
  bcast_S32x1x20000_S32x20000x20000_0_1_2 := by decide
  reducesTo_S32x20000x20000_S_d0_1_2 := by decide

/-- The kernel over bit patterns keeps its arguments. -/
theorem frame_kernel : Cert.quiescent_Kernel (hKernel := Cert.Kernel.Gen.facts) :=
  fun m g _ => Cert.Kernel.Gen.frame m g

/-- The kernel over extended reals keeps its arguments. -/
theorem frame_kernelIdeal : Cert.quiescent_KernelIdeal (hKernelIdeal := Cert.KernelIdeal.Gen.facts) :=
  fun m g _ => Cert.KernelIdeal.Gen.frame m g

/-- The same under the precondition, which it does not need. -/
theorem frame_kernelIdeal_pre :
    Cert.quiescent_KernelIdeal_pre_in_range (hKernelIdeal := Cert.KernelIdeal.Gen.facts) (hPre_in_range := preFacts) :=
  fun m g _ => Cert.KernelIdeal.Gen.frame m g

/-- The reference over extended reals keeps its arguments. -/
theorem frame_referenceIdeal : Cert.quiescent_ReferenceIdeal (hReferenceIdeal := Cert.ReferenceIdeal.Gen.facts) := by
  intro m g _
  exact (θ_run Cert.ReferenceIdeal.defs _ _).mono (fun r h => ⟨fun c => (h c).2.2.2,
      Idealize.ShloMosaic.sem_eq_zero_of_no_sems (by decide) r.2⟩)
    (Cert.ReferenceIdeal.Value.run (F := Ideal) m g)

/-- The same under the precondition. -/
theorem frame_referenceIdeal_pre :
    Cert.quiescent_ReferenceIdeal_pre_in_range (hReferenceIdeal := Cert.ReferenceIdeal.Gen.facts) (hPre_in_range := preFacts) :=
  fun m g _ => frame_referenceIdeal m g trivial

end Cert.Own

end
-- ==== Proof.Rows.lean ====
/-
  The kernel's blocks read row by row. A row of 20000 boxes is stored as 8 lines of 2500; box `p` of row `r` is at line
  `p / 2500`, place `p % 2500`. The kernel's sums and counts over the last two axes are then sums and counts over the
  boxes of a row.
-/
module

public import proofs.«01_k».proof.Proof.Gen.KernelIdeal
public import Idealize.ShloMosaic.Lib.IdealHost
public import Idealize.ShloMosaic.Lib.IndicatorCount
public import Idealize.ShloMosaic.Lib.WordSum
public import Idealize.ShloMosaic.Lib.ValueLayout
public import Idealize.ShloMosaic.Lib.Pipeline.Value
public import Idealize.ShloMosaic.Lib.Pointwise.Index

@[expose] public section

noncomputable section

namespace Cert.Own

open Idealize.ShloMosaic Cert.KernelIdeal Cert.KernelIdeal.Gen
open scoped BigOperators

/-- Where box `p` of row `r` lies in a block. -/
def pt (r : Fin 16) (p : Fin 20000) : S16x8x2500.Idx :=
  ix3 r (⟨p.val / 2500, by omega⟩ : Fin 8) (⟨p.val % 2500, Nat.mod_lt _ (by norm_num)⟩ : Fin 2500)

/-- Where row `r` lies in a column of per-row values. -/
def col (r : Fin 16) : S16x1x1.Idx := ix3 r (0 : Fin 1) (0 : Fin 1)

theorem pt_injective (r : Fin 16) : Function.Injective (pt r) := by
  intro p q h
  have h1 : p.val / 2500 = q.val / 2500 := congrArg Fin.val (congrFun h 1)
  have h2 : p.val % 2500 = q.val % 2500 := congrArg Fin.val (congrFun h 2)
  exact Fin.ext (by omega)

/-- The block's elements that a reduction over the last two axes sends to row `r` are the row's boxes. -/
theorem row_filter (h : S16x8x2500.Reduces [1, 2] S16) (r : Fin 16) :
    (Finset.univ.filter fun i => h.drop i = ix1 r) = Finset.univ.map ⟨pt r, pt_injective r⟩ := by
  ext i
  have hd : h.drop i = ix1 r ↔ i 0 = r := by
    constructor
    · intro e
      have e0 := congrArg Fin.val (congrFun e 0)
      rw [h.drop_apply_val_of_eq i 0 0] at e0
      exact Fin.ext e0
    · intro e
      funext b
      obtain rfl : b = 0 := Subsingleton.elim _ _
      apply Fin.ext
      rw [h.drop_apply_val_of_eq i 0 0, e]; rfl
  simp only [Finset.mem_filter, Finset.mem_univ, true_and, Finset.mem_map, Function.Embedding.coeFn_mk, hd]
  constructor
  · intro e
    have l1 : (i 1).val < 8 := (i 1).isLt
    have l2 : (i 2).val < 2500 := (i 2).isLt
    refine ⟨⟨(i 1).val * 2500 + (i 2).val, by omega⟩, ?_⟩
    refine Eq.trans ?_ (ix3_eta i)
    refine (ix3_inj (n0 := 16) (n1 := 8) (n2 := 2500) _ _ _ _ _ _).2 ?_
    refine ⟨e.symm, Fin.ext ?_, Fin.ext ?_⟩
    · show ((i 1).val * 2500 + (i 2).val) / 2500 = (i 1).val
      omega
    · show ((i 1).val * 2500 + (i 2).val) % 2500 = (i 2).val
      omega
  · rintro ⟨p, rfl⟩; rfl

/-- The kernel's count of a mask's ones in row `r`. -/
theorem row_count (q : IVec S16x8x2500 1) (r : Fin 16) :
    shapeCast S16x1x1 (multiReductionI .add [1, 2] S16 (extui 32 q natLt_1_32) 0#32 reduces_S16x8x2500_S16 rfl)
        shapeCasts_S16_S16x1x1 (col r)
      = BitVec.ofNat 32 (Finset.univ.filter fun p => q (pt r p) = 1#1).card := by
  rw [shapeCast_apply _ _ _ (ix1 r) (by
    rw [Shape.rowMajor_val_three, Shape.rowMajor_val_one]; show r.val = (r.val * 1 + 0) * 1 + 0; omega)]
  refine (multiReductionI_eq_fold .add _ _ reduces_S16x8x2500_S16 rfl (ix1 r)).trans ?_
  rw [row_filter]
  refine (IndicatorCount.fold_addi_setWidth_eq_card (fun i => q i) _).trans ?_
  rw [Finset.filter_map, Finset.card_map]
  rfl

/-- The kernel's sum of a block's row `r`. -/
theorem row_total (x : FVec Ideal S16x8x2500 .f32) (r : Fin 16) :
    shapeCast S16x1x1 (multiReduction .add [1, 2] S16 x 0x00000000#32 reduces_S16x8x2500_S16 (.inl rfl) rfl)
        shapeCasts_S16_S16x1x1 (col r)
      = ∑ p, x (pt r p) := by
  rw [shapeCast_apply _ _ _ (ix1 r) (by
    rw [Shape.rowMajor_val_three, Shape.rowMajor_val_one]; show r.val = (r.val * 1 + 0) * 1 + 0; omega)]
  show ∑ i ∈ Finset.univ.filter (fun i => reduces_S16x8x2500_S16.drop i = ix1 r), x i = _
  rw [row_filter, Finset.sum_map]
  rfl

/-- A sum over a whole block, row by row. -/
theorem block_sum {M : Type} [AddCommMonoid M] (x : S16x8x2500.Idx → M) : ∑ i, x i = ∑ r : Fin 16, ∑ p, x (pt r p) := by
  rw [← Finset.sum_fiberwise Finset.univ (fun i => reduces_S16x8x2500_S16.drop i) x, sum_idx1]
  refine Finset.sum_congr rfl fun r _ => ?_
  rw [row_filter, Finset.sum_map]
  rfl

/-- The kernel's sum of a whole block. -/
theorem block_total (x : FVec Ideal S16x8x2500 .f32) :
    extractAt ![0, 0, 0, 0] (shapeCast S1x1x1x1 (multiReduction .add [1, 2, 3] S1
        (shapeCast S1x16x8x2500 x shapeCasts_S16x8x2500_S1x16x8x2500) 0x00000000#32 reduces_S1x16x8x2500_S1 (.inl rfl) rfl)
        shapeCasts_S1_S1x1x1x1) inpos_S1x1x1x1_p0_0_0_0
      = ∑ r : Fin 16, ∑ p, x (pt r p) := by
  rw [← block_sum]
  unfold extractAt
  rw [shapeCast_apply (t := S1x1x1x1) _ _ _ (ix1 (0 : Fin 1)) (by decide)]
  refine (Ideal.multiReduction_add_total _ _ reduces_S1x16x8x2500_S1 (by decide) (.inl rfl) rfl _).trans ?_
  exact Equiv.sum_comp (Shape.reshapeEquiv shapeCasts_S16x8x2500_S1x16x8x2500) x

/-- The kernel's sum of a column of per-row values. -/
theorem col_total (x : FVec Ideal S16x1x1 .f32) :
    extractAt ![0, 0, 0, 0] (shapeCast S1x1x1x1 (multiReduction .add [1, 2, 3] S1
        (shapeCast S1x16x1x1 x shapeCasts_S16x1x1_S1x16x1x1) 0x00000000#32 reduces_S1x16x1x1_S1 (.inl rfl) rfl)
        shapeCasts_S1_S1x1x1x1) inpos_S1x1x1x1_p0_0_0_0
      = ∑ r : Fin 16, x (col r) := by
  unfold extractAt
  rw [shapeCast_apply (t := S1x1x1x1) _ _ _ (ix1 (0 : Fin 1)) (by decide)]
  refine (Ideal.multiReduction_add_total _ _ reduces_S1x16x1x1_S1 (by decide) (.inl rfl) rfl _).trans ?_
  refine (Equiv.sum_comp (Shape.reshapeEquiv shapeCasts_S16x1x1_S1x16x1x1) x).trans ?_
  rw [sum_idx3]
  simp only [Fin.sum_univ_one, Finset.univ_unique, Finset.sum_singleton]
  rfl

/-- The kernel's sum of a column of per-row words, when it stays inside the word. -/
theorem col_total_word (x : IVec S16x1x1 32) (hx : ∑ r : Fin 16, (x (col r)).toNat < 2 ^ 32) :
    (extractAt ![0, 0, 0, 0] (shapeCast S1x1x1x1 (multiReductionI .add [1, 2, 3] S1
        (shapeCast S1x16x1x1 x shapeCasts_S16x1x1_S1x16x1x1) 0#32 reduces_S1x16x1x1_S1 rfl)
        shapeCasts_S1_S1x1x1x1) inpos_S1x1x1x1_p0_0_0_0).toNat
      = ∑ r : Fin 16, (x (col r)).toNat := by
  have key : ∑ i ∈ Finset.univ.filter (fun i => reduces_S1x16x1x1_S1.drop i = ix1 (0 : Fin 1)),
      (shapeCast S1x16x1x1 x shapeCasts_S16x1x1_S1x16x1x1 i).toNat = ∑ r : Fin 16, (x (col r)).toNat := by
    rw [Finset.filter_true_of_mem fun i _ => funext fun b => Fin.ext (by
      obtain rfl : b = 0 := Subsingleton.elim _ _
      have h1 : (reduces_S1x16x1x1_S1.drop i 0).val < 1 := (reduces_S1x16x1x1_S1.drop i 0).isLt
      show (reduces_S1x16x1x1_S1.drop i 0).val = 0
      omega)]
    refine (Equiv.sum_comp (Shape.reshapeEquiv shapeCasts_S16x1x1_S1x16x1x1) (fun i => (x i).toNat)).trans ?_
    rw [sum_idx3]
    simp only [Fin.sum_univ_one, Finset.univ_unique, Finset.sum_singleton]
    rfl
  unfold extractAt
  rw [shapeCast_apply (t := S1x1x1x1) _ _ _ (ix1 (0 : Fin 1)) (by decide)]
  exact (WordSum.toNat_multiReductionI_add _ reduces_S1x16x1x1_S1 rfl (ix1 (0 : Fin 1)) (by rw [key]; exact hx)).trans key

end Cert.Own
-- ==== Proof.Words.lean ====
/-
  The kernel's and the reference's integer arithmetic on small natural numbers held as 32-bit words, and signed
  comparisons read as comparisons of integers.
-/
module

public import Idealize.ShloMosaic.PureOps.Ideal
public import Mathlib.Tactic.Linarith

@[expose] public section

namespace Cert.Own

open Idealize.ShloMosaic

theorem ofBool_eq_one (b : Bool) : BitVec.ofBool b = 1#1 ↔ b = true := by cases b <;> decide

theorem sge_iff (x y : BitVec 32) : IntOp.cmpi .sge x y = 1#1 ↔ y.toInt ≤ x.toInt := by
  unfold IntOp.cmpi; rw [ofBool_eq_one]; exact BitVec.sle_iff_toInt_le

theorem sgt_iff (x y : BitVec 32) : IntOp.cmpi .sgt x y = 1#1 ↔ y.toInt < x.toInt := by
  unfold IntOp.cmpi; rw [ofBool_eq_one]; exact BitVec.slt_iff_toInt_lt

theorem slt_iff (x y : BitVec 32) : IntOp.cmpi .slt x y = 1#1 ↔ x.toInt < y.toInt := by
  unfold IntOp.cmpi; rw [ofBool_eq_one]; exact BitVec.slt_iff_toInt_lt

theorem eq_iff (x y : BitVec 32) : IntOp.cmpi .eq x y = 1#1 ↔ x.toInt = y.toInt := by
  unfold IntOp.cmpi; rw [ofBool_eq_one, beq_iff_eq]; exact BitVec.toInt_inj.symm

theorem ne_iff (x y : BitVec 32) : IntOp.cmpi .ne x y = 1#1 ↔ x ≠ y := by
  unfold IntOp.cmpi; rw [ofBool_eq_one, bne_iff_ne]

/-- A small natural number as a word has itself as its signed value. -/
theorem toInt_small {a : ℕ} (h : a < 2147483648) : (BitVec.ofNat 32 a).toInt = (a : ℤ) := by
  rw [BitVec.toInt_eq_toNat_cond, BitVec.toNat_ofNat, Nat.mod_eq_of_lt (by omega), if_pos (by omega)]

theorem maxsi_small {a b : ℕ} (ha : a < 2147483648) (hb : b < 2147483648) :
    IntOp.maxsi (BitVec.ofNat 32 a) (BitVec.ofNat 32 b) = BitVec.ofNat 32 (max a b) := by
  unfold IntOp.maxsi
  by_cases h : b < a
  · rw [if_pos (by rw [BitVec.slt_iff_toInt_lt, toInt_small ha, toInt_small hb]; exact_mod_cast h), max_eq_left h.le]
  · rw [if_neg (by rw [BitVec.slt_iff_toInt_lt, toInt_small ha, toInt_small hb]; exact_mod_cast h), max_eq_right (not_lt.1 h)]

theorem minsi_small {a b : ℕ} (ha : a < 2147483648) (hb : b < 2147483648) :
    IntOp.minsi (BitVec.ofNat 32 a) (BitVec.ofNat 32 b) = BitVec.ofNat 32 (min a b) := by
  unfold IntOp.minsi
  by_cases h : a < b
  · rw [if_pos (by rw [BitVec.slt_iff_toInt_lt, toInt_small ha, toInt_small hb]; exact_mod_cast h), min_eq_left h.le]
  · rw [if_neg (by rw [BitVec.slt_iff_toInt_lt, toInt_small ha, toInt_small hb]; exact_mod_cast h), min_eq_right (not_lt.1 h)]

theorem subi_small {a b : ℕ} (ha : a < 2147483648) (h : b ≤ a) :
    IntOp.subi (BitVec.ofNat 32 a) (BitVec.ofNat 32 b) = BitVec.ofNat 32 (a - b) := by
  unfold IntOp.subi
  apply BitVec.eq_of_toNat_eq
  rw [BitVec.toNat_sub, BitVec.toNat_ofNat, BitVec.toNat_ofNat, BitVec.toNat_ofNat]
  omega

theorem muli_small (a b : ℕ) : IntOp.muli (BitVec.ofNat 32 a) (BitVec.ofNat 32 b) = BitVec.ofNat 32 (a * b) := by
  unfold IntOp.muli
  apply BitVec.eq_of_toNat_eq
  rw [BitVec.toNat_mul, BitVec.toNat_ofNat, BitVec.toNat_ofNat, BitVec.toNat_ofNat, ← Nat.mul_mod]

/-- The word a row's box is ranked by: a float's bits with the order of the floats, as signed words. -/
def rawKey (u : BitVec 32) : BitVec 32 := if 0 ≤ u.toInt then u else u ^^^ 2147483647#32

/-- The word a row's box is searched by: the least word at a positive box. -/
def boxKey (l u : BitVec 32) : BitVec 32 := if 0 < l.toInt then 2147483648#32 else rawKey u

theorem least_toInt : (2147483648#32).toInt = -2147483648 := by decide

theorem word_toInt_lt (w : BitVec 32) : w.toInt < 2147483648 := by
  have := @BitVec.toInt_lt 32 w; simpa using this

theorem word_le_toInt (w : BitVec 32) : -2147483648 ≤ w.toInt := by
  have := @BitVec.le_toInt 32 w; simpa using this

/-- Only the word of all ones is ranked by the least word. -/
theorem rawKey_gt {u : BitVec 32} (h : u ≠ 4294967295#32) : -2147483648 < (rawKey u).toInt := by
  refine lt_of_le_of_ne (word_le_toInt _) ?_
  intro e
  rw [← least_toInt] at e
  have e' := BitVec.toInt_inj.1 e
  unfold rawKey at e'
  by_cases hu : 0 ≤ u.toInt
  · rw [if_pos hu] at e'
    rw [← e', least_toInt] at hu
    omega
  · rw [if_neg hu] at e'
    apply h
    have : u = (u ^^^ 2147483647#32) ^^^ 2147483647#32 := by rw [BitVec.xor_assoc, BitVec.xor_self, BitVec.xor_zero]
    rw [this, ← e']
    decide

end Cert.Own
-- ==== Proof.Threshold.lean ====
/-
  The bit-by-bit threshold search as a statement about one row: a word is built from the sign bit down, a bit is kept
  when at least `k` keys are at or above the candidate. What the search ends on is a word `T` with at least `k` keys
  at or above it and at most `k` keys strictly above it.
-/
module

public import Idealize.ShloMosaic.Lib.Exec.Context
public import Mathlib.Tactic.Linarith
public import Mathlib.Tactic.Ring

@[expose] public section

namespace Cert.Own

open Idealize.ShloMosaic

/-- A property that holds of the start and that every step carries from its count to the next holds of a counted
loop's result at the whole count. -/
theorem fold_invariant {σ : Type} {n : ℕ} (g : Fin n → σ → σ) (init : σ) (Inv : ℕ → σ → Prop) (h0 : Inv 0 init)
    (hs : ∀ (k : Fin n) x, Inv k.val x → Inv (k.val + 1) (g k x)) : Inv n (Scf.fold g init) := by
  rw [Scf.fold_eq]
  induction n generalizing init Inv with
  | zero => simpa using h0
  | succ n ih =>
    rw [List.finRange_succ, List.foldl_cons, List.foldl_map]
    refine ih (fun k => g k.succ) (g 0 init) (fun i x => Inv (i + 1) x) ?_ ?_
    · exact hs 0 init h0
    · intro k x hx
      exact hs k.succ x hx

/-- What is known of the word after `i` of the 31 steps: its low `31 - i` bits are still clear, at least `k` keys are at
or above it, and at most `k` keys are at or above the next word with those low bits clear. -/
def Searched (cnt : ℤ → ℕ) (k : ℕ) (i : ℕ) (T : BitVec 32) : Prop :=
  2 ^ (31 - i) ∣ T.toNat ∧ k ≤ cnt T.toInt ∧ cnt (T.toInt + 2 ^ (31 - i)) ≤ k

/-- Setting the next bit of a word whose low bits are clear adds that bit's weight to its signed value. -/
theorem or_bit (T : BitVec 32) (j : ℕ) (hj : j ≤ 30) (hT : 2 ^ (j + 1) ∣ T.toNat) :
    (T ||| BitVec.ofNat 32 (2 ^ j)).toNat = T.toNat + 2 ^ j ∧
      (T ||| BitVec.ofNat 32 (2 ^ j)).toInt = T.toInt + 2 ^ j := by
  obtain ⟨a, ha⟩ := hT
  have h1 : 2 ^ j < 2 ^ 32 := Nat.pow_lt_pow_right (by norm_num) (by omega)
  have h2 : 2 ^ j < 2 ^ (j + 1) := Nat.pow_lt_pow_right (by norm_num) (by omega)
  have e : (T ||| BitVec.ofNat 32 (2 ^ j)).toNat = T.toNat + 2 ^ j := by
    rw [BitVec.toNat_or, BitVec.toNat_ofNat, Nat.mod_eq_of_lt h1, ha, Nat.two_pow_add_eq_or_of_lt h2]
  refine ⟨e, ?_⟩
  have hm : 2 ^ (j + 1) * 2 ^ (30 - j) = 2147483648 := by
    rw [← pow_add, show j + 1 + (30 - j) = 31 by omega]; norm_num
  have hlt : T.toNat < 2147483648 → T.toNat + 2 ^ (j + 1) ≤ 2147483648 := by
    intro h
    rw [ha, ← hm] at h
    have h3 : a < 2 ^ (30 - j) := Nat.lt_of_mul_lt_mul_left h
    rw [ha, ← hm, ← Nat.mul_succ]
    exact Nat.mul_le_mul_left _ h3
  have hT32 := T.isLt
  have ho := (T ||| BitVec.ofNat 32 (2 ^ j)).isLt
  rw [BitVec.toInt_eq_toNat_cond, BitVec.toInt_eq_toNat_cond, e]
  have hc : ((2 ^ j : ℕ) : ℤ) = 2 ^ j := by push_cast; rfl
  rw [← hc]
  by_cases hlow : T.toNat < 2147483648
  · have := hlt hlow
    rw [if_pos (by omega), if_pos (by omega)]; push_cast; rfl
  · rw [if_neg (by omega), if_neg (by omega)]; push_cast; ring

/-- One step of the search keeps what is known of the word. -/
theorem Searched.step {cnt : ℤ → ℕ} {k i : ℕ} {T : BitVec 32} (hi : i < 31) (h : Searched cnt k i T) :
    Searched cnt k (i + 1)
      (if k ≤ cnt (T ||| BitVec.ofNat 32 (2 ^ (30 - i))).toInt then T ||| BitVec.ofNat 32 (2 ^ (30 - i)) else T) := by
  obtain ⟨hd, hk, hn⟩ := h
  have e : 31 - i = (30 - i) + 1 := by omega
  have e' : 31 - (i + 1) = 30 - i := by omega
  have hb := or_bit T (30 - i) (by omega) (e ▸ hd)
  have hd' : 2 ^ (30 - i) ∣ T.toNat := Dvd.dvd.trans (pow_dvd_pow 2 (by omega)) hd
  unfold Searched
  rw [e']
  by_cases hc : k ≤ cnt (T ||| BitVec.ofNat 32 (2 ^ (30 - i))).toInt
  · rw [if_pos hc]
    refine ⟨?_, hc, ?_⟩
    · rw [hb.1]; exact (Nat.dvd_add_right hd').2 (dvd_refl _)
    · rw [hb.2, show T.toInt + 2 ^ (30 - i) + 2 ^ (30 - i) = T.toInt + 2 ^ (31 - i) by rw [e, pow_succ]; ring]
      exact hn
  · rw [if_neg hc]
    refine ⟨hd', hk, ?_⟩
    rw [← hb.2]; omega

/-- The search starts with the sign bit decided: zero when at least `k` keys are not negative, the least word otherwise.
No key is at or above `2 ^ 31` and every key is at or above the least word. -/
theorem Searched.base {cnt : ℤ → ℕ} {k : ℕ} (htop : cnt (2 ^ 31) = 0) (hbot : k ≤ cnt (-(2 ^ 31))) :
    Searched cnt k 0 (if k ≤ cnt 0 then 0#32 else 2147483648#32) := by
  by_cases hc : k ≤ cnt 0
  · rw [if_pos hc]
    refine ⟨by simp, by simpa using hc, ?_⟩
    have : (0#32).toInt + 2 ^ (31 - 0) = 2 ^ 31 := by simp
    rw [this, htop]; exact Nat.zero_le _
  · rw [if_neg hc]
    have e : (2147483648#32).toInt = -(2 ^ 31) := by decide
    refine ⟨by decide, by rw [e]; exact hbot, ?_⟩
    rw [e, show (-(2 ^ 31) + 2 ^ (31 - 0) : ℤ) = 0 by norm_num]
    omega

end Cert.Own
-- ==== Proof.KernelSearch.lean ====
/-
  The integer half of one task at one grid point, row by row: how many positive boxes a row has, how many negatives it
  selects, the word each box is ranked by, and the threshold the kernel's search ends on.
-/
module

public import proofs.«01_k».proof.Proof.Gen.KernelIdeal.Skeleton
public import proofs.«01_k».proof.Proof.Rows
public import proofs.«01_k».proof.Proof.Words
public import proofs.«01_k».proof.Proof.Threshold
public import Idealize.ShloMosaic.Lib.Pointwise.Reshape

@[expose] public section

noncomputable section

namespace Cert.Own

open Idealize.ShloMosaic Cert.KernelIdeal Cert.KernelIdeal.Gen
open scoped BigOperators

/-- How many positive boxes a row has. -/
def nPos (lab : Fin 20000 → BitVec 32) : ℕ := (Finset.univ.filter fun p => 0 < (lab p).toInt).card

/-- That count, at least one. -/
def nPosOne (lab : Fin 20000 → BitVec 32) : ℕ := max (nPos lab) 1

/-- How many negative boxes a row selects: three for each positive, as far as there are negatives. -/
def nNeg (lab : Fin 20000 → BitVec 32) : ℕ := min (nPosOne lab * 3) (20000 - nPos lab)

theorem nPos_le (lab : Fin 20000 → BitVec 32) : nPos lab ≤ 20000 := by
  unfold nPos
  exact (Finset.card_le_univ _).trans (by simp)

theorem nPosOne_le (lab : Fin 20000 → BitVec 32) : nPosOne lab ≤ 20000 := by
  have := nPos_le lab
  unfold nPosOne; omega

theorem nNeg_le (lab : Fin 20000 → BitVec 32) : nNeg lab ≤ 20000 := by unfold nNeg; omega

theorem card_row_le (P : Fin 20000 → Prop) [DecidablePred P] : (Finset.univ.filter P).card ≤ 20000 :=
  (Finset.card_le_univ _).trans (by simp)

variable (v4 v6 : Vec Ideal S16x8x2500 .i32)

/-- A block's row of words. -/
abbrev rowOf {α : Type} (x : S16x8x2500.Idx → α) (r : Fin 16) : Fin 20000 → α := fun p => x (pt r p)

theorem pay1_eq : k0_pay1 (F := Ideal) v6 = v6 := by unfold k0_pay1; simp only [shapeCast_id]

theorem pay3_iff (i : S16x8x2500.Idx) : k0_pay3 (F := Ideal) v4 i = 1#1 ↔ 0 < BitVec.toInt (v4 i) := by
  unfold k0_pay3
  simp only [shapeCast_id]
  exact sgt_iff (v4 i) 0#32

theorem pay4_row (r : Fin 16) : k0_pay4 (F := Ideal) v4 (col r) = BitVec.ofNat 32 (nPos (rowOf v4 r)) := by
  refine (row_count (k0_pay3 (F := Ideal) v4) r).trans ?_
  simp only [pay3_iff]
  rfl

theorem pay5_row (r : Fin 16) : k0_pay5 (F := Ideal) v4 (col r) = BitVec.ofNat 32 (nPosOne (rowOf v4 r)) := by
  have h := nPos_le (rowOf v4 r)
  show IntOp.maxsi (k0_pay4 (F := Ideal) v4 (col r)) (BitVec.ofNat 32 1) = _
  rw [pay4_row, maxsi_small (by omega) (by omega)]
  rfl

theorem pay6_row (r : Fin 16) : k0_pay6 (F := Ideal) v4 (col r) = BitVec.ofNat 32 (nNeg (rowOf v4 r)) := by
  have h := nPos_le (rowOf v4 r)
  have h1 := nPosOne_le (rowOf v4 r)
  show IntOp.minsi (IntOp.muli (k0_pay5 (F := Ideal) v4 (col r)) (BitVec.ofNat 32 3))
    (IntOp.subi (BitVec.ofNat 32 20000) (k0_pay4 (F := Ideal) v4 (col r))) = _
  rw [pay5_row, pay4_row, muli_small, subi_small (by omega) h, minsi_small (by omega) (by omega)]
  rfl

/-- The word the kernel searches a box by. -/
theorem pay13_at (i : S16x8x2500.Idx) :
    k0_pay13 (k0_pay1 (F := Ideal) v6) (k0_pay3 (F := Ideal) v4) i = boxKey (v4 i) (v6 i) := by
  rw [pay1_eq]
  show Scalar.select (k0_pay3 (F := Ideal) v4 i) 2147483648#32
    (Scalar.select (IntOp.cmpi .sge (v6 i) 0#32) (v6 i) (v6 i ^^^ 2147483647#32)) = _
  unfold Scalar.select boxKey rawKey
  refine (if_congr (pay3_iff v4 i) rfl ?_)
  exact if_congr (sge_iff (v6 i) 0#32) rfl rfl

/-- How many boxes of a row have a search word at or above `t`. -/
def cntAt (key : Fin 20000 → BitVec 32) (t : ℤ) : ℕ := (Finset.univ.filter fun p => t ≤ (key p).toInt).card

theorem cntAt_le (key : Fin 20000 → BitVec 32) (t : ℤ) : cntAt key t ≤ 20000 := card_row_le _

/-- The search words of a row. -/
abbrev rowKey (r : Fin 16) : Fin 20000 → BitVec 32 := fun p => boxKey (v4 (pt r p)) (v6 (pt r p))

/-- A count of a row compared with a word, as the kernel compares them. -/
theorem count_ge (r : Fin 16) (c : Fin 16 → BitVec 32) (q : IVec S16x8x2500 1) (k : ℕ) (hk : k < 2147483648)
    (hq : ∀ p, q (pt r p) = 1#1 ↔ (c r).toInt ≤ (rowKey v4 v6 r p).toInt) :
    IntOp.cmpi .sge (shapeCast S16x1x1 (multiReductionI .add [1, 2] S16 (extui 32 q natLt_1_32) 0#32
        reduces_S16x8x2500_S16 rfl) shapeCasts_S16_S16x1x1 (col r)) (BitVec.ofNat 32 k) = 1#1
      ↔ k ≤ cntAt (rowKey v4 v6 r) (c r).toInt := by
  rw [row_count, sge_iff]
  have e : (Finset.univ.filter fun p => q (pt r p) = 1#1).card = cntAt (rowKey v4 v6 r) (c r).toInt := by
    unfold cntAt
    simp only [hq]
  have hc := cntAt_le (rowKey v4 v6 r) (c r).toInt
  rw [e, toInt_small hk, toInt_small (by omega)]
  exact_mod_cast Iff.rfl

/-- A column of words spread over the rows of a block. -/
theorem spread_at (x : IVec S16x1x1 32) (r : Fin 16) (p : Fin 20000) :
    broadcastTo S16x8x2500 x broadcasts_S16x1x1_S16x8x2500 (pt r p) = x (col r) := by
  refine broadcastTo_apply x _ _ _ ?_
  intro a
  fin_cases a <;> rfl

/-- The threshold of every row, as the kernel's 31 steps leave it. -/
def threshold : IVec S16x1x1 32 :=
  Scf.fold (k0_pay15 (k0_pay1 (F := Ideal) v6) (k0_pay3 (F := Ideal) v4) (k0_pay6 (F := Ideal) v4))
    (k0_pay14 (k0_pay1 (F := Ideal) v6) (k0_pay3 (F := Ideal) v4) (k0_pay6 (F := Ideal) v4))

/-- The bit the kernel tries at a step. -/
theorem step_bit : ∀ k : Fin 31, Scalar.shli 1#32 (Scalar.subi 30#32 (Scf.iv 0#32 1#32 k)) = BitVec.ofNat 32 (2 ^ (30 - k.val)) := by
  decide

/-- A mask counted along the rows, as the kernel counts it. -/
abbrev counted (q : IVec S16x8x2500 1) : IVec S16x1x1 32 :=
  shapeCast S16x1x1 (multiReductionI .add [1, 2] S16 (extui 32 q natLt_1_32) 0#32 reduces_S16x8x2500_S16 rfl)
    shapeCasts_S16_S16x1x1

/-- The search's start at one row. -/
theorem pay14_at (v7 : IVec S16x8x2500 32) (v10 : IVec S16x8x2500 1) (v20 : IVec S16x1x1 32) (j : S16x1x1.Idx) :
    k0_pay14 v7 v10 v20 j = Scalar.select (IntOp.cmpi .sge
      (counted (cmpi .sge (k0_pay13 v7 v10) (broadcast S16x8x2500 0#32)) j) (v20 j)) 0#32 2147483648#32 := rfl

/-- One step of the search at one row. -/
theorem pay15_at (v7 : IVec S16x8x2500 32) (v10 : IVec S16x8x2500 1) (v20 : IVec S16x1x1 32) (k : Fin 31)
    (x : IVec S16x1x1 32) (j : S16x1x1.Idx) :
    k0_pay15 v7 v10 v20 k x j = Scalar.select (IntOp.cmpi .sge
      (counted (cmpi .sge (k0_pay13 v7 v10) (broadcastTo S16x8x2500
        (ori x (broadcast S16x1x1 (Scalar.shli 1#32 (Scalar.subi 30#32 (Scf.iv 0#32 1#32 k)))))
          broadcasts_S16x1x1_S16x8x2500)) j) (v20 j))
      (IntOp.ori (x j) (Scalar.shli 1#32 (Scalar.subi 30#32 (Scf.iv 0#32 1#32 k)))) (x j) := rfl

/-- At the end of the search at least `k` keys of the row are at or above the threshold and at most `k` strictly above. -/
theorem threshold_searched (r : Fin 16) :
    Searched (cntAt (rowKey v4 v6 r)) (nNeg (rowOf v4 r)) 31 (threshold v4 v6 (col r)) := by
  have hk := nNeg_le (rowOf v4 r)
  refine fold_invariant (n := 31) _ _ (fun i (x : IVec S16x1x1 32) => Searched (cntAt (rowKey v4 v6 r)) (nNeg (rowOf v4 r)) i (x (col r))) ?_ ?_
  · have hb := Searched.base (cnt := cntAt (rowKey v4 v6 r)) (k := nNeg (rowOf v4 r))
      (by
        unfold cntAt
        rw [Finset.card_eq_zero, Finset.filter_eq_empty_iff]
        intro p _ h
        have := word_toInt_lt (rowKey v4 v6 r p)
        omega)
      (by
        unfold cntAt
        rw [Finset.filter_true_of_mem fun p _ => by
          have := word_le_toInt (rowKey v4 v6 r p); omega]
        simpa using hk)
    refine (congrArg (Searched _ _ 0) ?_).mpr hb
    rw [pay14_at, pay6_row]
    unfold Scalar.select
    refine if_congr ?_ rfl rfl
    refine (count_ge v4 v6 r (fun _ => 0#32) _ _ (by omega) ?_).trans ?_
    · intro p
      show IntOp.cmpi .sge (k0_pay13 _ _ (pt r p)) 0#32 = 1#1 ↔ _
      rw [pay13_at, sge_iff]
    · exact Iff.rfl
  · intro k x hx
    have hs := Searched.step k.isLt hx
    refine (congrArg (Searched _ _ (k.val + 1)) ?_).mpr hs
    have hor : IntOp.ori (x (col r)) (Scalar.shli 1#32 (Scalar.subi 30#32 (Scf.iv 0#32 1#32 k)))
        = x (col r) ||| BitVec.ofNat 32 (2 ^ (30 - k.val)) := by rw [step_bit k]; rfl
    refine (pay15_at _ _ _ k x (col r)).trans ?_
    rw [pay6_row, hor]
    unfold Scalar.select
    refine if_congr ?_ rfl rfl
    refine (count_ge v4 v6 r (fun _ => x (col r) ||| BitVec.ofNat 32 (2 ^ (30 - k.val))) _ _ (by omega) ?_).trans Iff.rfl
    intro p
    show IntOp.cmpi .sge (k0_pay13 _ _ (pt r p)) (broadcastTo S16x8x2500 _ broadcasts_S16x1x1_S16x8x2500 (pt r p)) = 1#1 ↔ _
    rw [pay13_at, spread_at, sge_iff]
    show BitVec.toInt (IntOp.ori (x (col r)) (Scalar.shli 1#32 (Scalar.subi 30#32 (Scf.iv 0#32 1#32 k)))) ≤ _ ↔ _
    rw [hor]

end Cert.Own
-- ==== Proof.Focal.lean ====
/-
  The cross-entropy and focal terms of one box as real functions of the difference of its two scores, and the two ways
  the programs compute them, over the extended reals, at finite scores.
-/
module

public import Idealize.ShloMosaic.Lib.IdealHost
public import Mathlib.Analysis.SpecialFunctions.Log.Basic
public import Mathlib.Analysis.SpecialFunctions.Pow.Real
public import Mathlib.Tactic.Linarith
public import Mathlib.Tactic.Ring
public import Mathlib.Tactic.Positivity

@[expose] public section

noncomputable section

namespace Cert.Own

open Idealize.ShloMosaic

/-- `log (1 + e ^ d)`, written so that the exponential does not overflow. -/
def sp (d : ℝ) : ℝ := max d 0 + Real.log (1 + Real.exp (-|d|))

/-- The focal weighting of a cross-entropy `l`, with weight one quarter and exponent two. -/
def focal (l : ℝ) : ℝ := 1 / 4 * ((1 - Real.exp (-l)) * (1 - Real.exp (-l))) * l

theorem sp_eq (d : ℝ) : sp d = Real.log (1 + Real.exp d) := by
  unfold sp
  rcases le_total 0 d with h | h
  · rw [max_eq_left h, abs_of_nonneg h]
    have e : 1 + Real.exp d = Real.exp d * (1 + Real.exp (-d)) := by
      rw [mul_add, ← Real.exp_add, add_neg_cancel, Real.exp_zero]; ring
    rw [e, Real.log_mul (Real.exp_ne_zero _) (by positivity), Real.log_exp]
  · rw [max_eq_right h, abs_of_nonpos h, neg_neg, zero_add]

theorem sp_strictMono : StrictMono sp := by
  intro a b h
  rw [sp_eq, sp_eq]
  exact Real.log_lt_log (by positivity) (by have := Real.exp_lt_exp.2 h; linarith)

/-- The extended exponential and logarithm at a real. -/
theorem exp_real (r : ℝ) : Ideal.exp (r : EReal) = (Real.exp r : EReal) := rfl

theorem log_real {r : ℝ} (h : 0 < r) : Ideal.log (r : EReal) = (Real.log r : EReal) := by
  show (if r ≤ 0 then (⊥ : EReal) else (Real.log r : EReal)) = _
  rw [if_neg (not_le.2 h)]

theorem max_real (a b : ℝ) : max (a : EReal) (b : EReal) = ((max a b : ℝ) : EReal) := by
  rcases le_total a b with h | h
  · rw [max_eq_right h, max_eq_right (EReal.coe_le_coe_iff.2 h)]
  · rw [max_eq_left h, max_eq_left (EReal.coe_le_coe_iff.2 h)]

/-- The kernel's cross-entropy: the positive part plus the logarithm of one plus the exponential of minus the size. -/
theorem kernel_loss (d e : ℝ) (he : |e| = |d|) :
    max (d : EReal) 0 + Ideal.log1p (Ideal.exp (0 - max (e : EReal) (-(e : EReal)))) = (sp d : EReal) := by
  have h0 : (0 : EReal) = ((0 : ℝ) : EReal) := rfl
  have h1 : (1 : EReal) = ((1 : ℝ) : EReal) := rfl
  have hp : 0 < 1 + Real.exp (-|d|) := by positivity
  rw [← EReal.coe_neg, max_real, show max e (-e) = |d| from he, h0, max_real, ← EReal.coe_sub, exp_real]
  unfold Ideal.log1p
  rw [h1, ← EReal.coe_add, zero_sub, log_real hp, ← EReal.coe_add]
  rfl

/-- One quarter as the float word the kernel spells it by. -/
theorem quarter : Ideal.ofBits .f32 0x3E800000#32 = ((1 / 4 : ℝ) : EReal) := by
  simp [Ideal.ofBits, Ideal.ieee]; rw [← EReal.coe_mul]; norm_num

/-- Minus one quarter as the float word the reference spells it by. -/
theorem neg_quarter : Ideal.ofBits .f32 0xBE800000#32 = ((-(1 / 4) : ℝ) : EReal) := by
  simp [Ideal.ofBits, Ideal.ieee]; rw [← EReal.coe_mul]; norm_num

/-- Two as the float word the reference spells it by. -/
theorem two_word : Ideal.ofBits .f32 0x40000000#32 = ((2 : ℝ) : EReal) := by
  simp [Ideal.ofBits, Ideal.ieee]; rw [← EReal.coe_mul]; norm_num

/-- The least extended real as the float word the reference spells it by. -/
theorem ninf_word : Ideal.ofBits .f32 0xFF800000#32 = (⊥ : EReal) := by
  simp [Ideal.ofBits, Ideal.ieee]

/-- The kernel's focal term of a finite cross-entropy. -/
theorem kernel_focal (l : ℝ) :
    ((1 / 4 : ℝ) : EReal) * ((1 - Ideal.exp (0 - (l : EReal))) * (1 - Ideal.exp (0 - (l : EReal)))) * (l : EReal)
      = (focal l : EReal) := by
  have h0 : (0 : EReal) = ((0 : ℝ) : EReal) := rfl
  have h1 : (1 : EReal) = ((1 : ℝ) : EReal) := rfl
  rw [h0, h1, ← EReal.coe_sub, exp_real, ← EReal.coe_sub, ← EReal.coe_mul, ← EReal.coe_mul, ← EReal.coe_mul, zero_sub]
  rfl

/-- The reference's focal term of a finite log-probability. -/
theorem ref_focal (l : ℝ) :
    (((-(1 / 4) : ℝ) : EReal) * Ideal.pow (1 - Ideal.exp ((-l : ℝ) : EReal)) ((2 : ℝ) : EReal)) * ((-l : ℝ) : EReal)
      = (focal l : EReal) := by
  have h1 : (1 : EReal) = ((1 : ℝ) : EReal) := rfl
  rw [exp_real, h1, ← EReal.coe_sub]
  show (((-(1 / 4) : ℝ) : EReal) * ((Real.rpow (1 - Real.exp (-l)) 2 : ℝ) : EReal)) * ((-l : ℝ) : EReal) = _
  rw [← EReal.coe_mul, ← EReal.coe_mul]
  congr 1
  have : Real.rpow (1 - Real.exp (-l)) 2 = (1 - Real.exp (-l)) ^ 2 := Real.rpow_two _
  rw [this]
  unfold focal
  ring

/-- The log-probability of the first of two scores, with the greater score `M` taken off first. -/
theorem logp_real (a b M : ℝ) (hM : M = max a b) :
    (a - M) - Real.log (Real.exp (a - M) + Real.exp (b - M)) = -sp (b - a) := by
  have e : Real.exp (a - M) + Real.exp (b - M) = Real.exp (a - M) * (1 + Real.exp (b - a)) := by
    rw [mul_add, ← Real.exp_add]; ring_nf
  rw [e, Real.log_mul (Real.exp_ne_zero _) (by positivity), Real.log_exp, sp_eq]
  ring

end Cert.Own
-- ==== Proof.TopSum.lean ====
/- Sums over the k members of a finite set that come first in an order.

   A row's negatives are ranked by how far they are misclassified and the first k of them are summed. Two ways of
   picking k members that respect the same ranking may differ in which of several EQUALLY ranked members they take, and the
   sum of a function of the rank is the same either way. -/
module

public import Mathlib.Algebra.BigOperators.Group.Finset.Basic
public import Mathlib.Algebra.BigOperators.Group.Finset.Piecewise
public import Mathlib.Algebra.Order.Field.Basic
public import Mathlib.Data.Real.Basic
public import Mathlib.Data.Finset.Card
public import Mathlib.Tactic.FieldSimp
public import Mathlib.Tactic.Linarith
public import Mathlib.Tactic.Ring
public import Mathlib.Data.Fintype.Card
public import Mathlib.Data.Finset.Preimage

@[expose] public section

namespace Cert.Own

/-- `S` is a set of members of `N` no member of `N` outside which ranks strictly above a member inside. -/
def IsTop {ι : Type} (N S : Finset ι) (δ : ι → ℝ) : Prop :=
  S ⊆ N ∧ ∀ i ∈ S, ∀ j ∈ N, j ∉ S → δ j ≤ δ i

/-- Two such sets of one size carry the same sum of a function of the rank. -/
theorem sum_eq_of_isTop {ι : Type} [DecidableEq ι] {N S T : Finset ι} {δ : ι → ℝ} {g : ι → ℝ}
    (hg : ∀ i ∈ N, ∀ j ∈ N, δ i = δ j → g i = g j) (hS : IsTop N S δ) (hT : IsTop N T δ) (hc : S.card = T.card) :
    ∑ i ∈ S, g i = ∑ i ∈ T, g i := by
  have e1 : ∑ i ∈ S, g i = ∑ i ∈ S ∩ T, g i + ∑ i ∈ S \ T, g i := (Finset.sum_inter_add_sum_sdiff S T g).symm
  have e2 : ∑ i ∈ T, g i = ∑ i ∈ T ∩ S, g i + ∑ i ∈ T \ S, g i := (Finset.sum_inter_add_sum_sdiff T S g).symm
  have hcard : (S \ T).card = (T \ S).card := by
    have h1 := Finset.card_sdiff_add_card_inter S T
    have h2 := Finset.card_sdiff_add_card_inter T S
    rw [Finset.inter_comm T S] at h2
    omega
  have hcross : ∀ i ∈ S \ T, ∀ j ∈ T \ S, g i = g j := by
    intro i hi j hj
    rw [Finset.mem_sdiff] at hi hj
    exact hg i (hS.1 hi.1) j (hT.1 hj.1)
      (le_antisymm (hT.2 j hj.1 i (hS.1 hi.1) hi.2) (hS.2 i hi.1 j (hT.1 hj.1) hj.2))
  have hdiff : ∑ i ∈ S \ T, g i = ∑ i ∈ T \ S, g i := by
    rcases (T \ S).eq_empty_or_nonempty with h | ⟨j, hj⟩
    · rw [h, Finset.card_empty, Finset.card_eq_zero] at hcard
      rw [h, hcard]
    · have hne : (S \ T).Nonempty := by
        rw [← Finset.card_pos, hcard]; exact Finset.card_pos.mpr ⟨j, hj⟩
      obtain ⟨i, hi⟩ := hne
      rw [Finset.sum_congr rfl fun a ha => hcross a ha j hj,
        Finset.sum_congr rfl fun b hb => ((hcross i hi b hb).symm.trans (hcross i hi j hj)),
        Finset.sum_const, Finset.sum_const, hcard]
  rw [e1, e2, Finset.inter_comm, hdiff]

/-- The threshold form. `t` splits a row's keys so that at least `k` keys are at or above it and at most `k` strictly above
    it. What lies strictly above, plus the missing ones at the average of those exactly at `t`, is the sum over any first `k` members. -/
theorem sum_threshold {ι : Type} [Fintype ι] [DecidableEq ι] (N S : Finset ι) (key : ι → ℤ) (δ g : ι → ℝ) (lo : ℤ)
    (hpos : ∀ i, i ∉ N → key i = lo) (hneg : ∀ i ∈ N, lo < key i)
    (hkey : ∀ i ∈ N, ∀ j ∈ N, key i ≤ key j → δ i ≤ δ j)
    (hg : ∀ i ∈ N, ∀ j ∈ N, δ i = δ j → g i = g j)
    (k : ℕ) (hS : IsTop N S δ) (hSk : S.card = k) (t : ℤ) (hlo : lo ≤ t)
    (hge : k ≤ (Finset.univ.filter fun i => t ≤ key i).card) (hgt : (Finset.univ.filter fun i => t < key i).card ≤ k) :
    (∑ i, if t < key i then g i else 0)
      + (if (Finset.univ.filter fun i => t < key i).card < k then
          (((k : ℤ) - (Finset.univ.filter fun i => t < key i).card : ℤ) : ℝ)
            * ((∑ i, if key i = t then g i else 0) * ((max (Finset.univ.filter fun i => key i = t).card 1 : ℕ) : ℝ)⁻¹) else 0)
      = ∑ i ∈ S, g i := by
  set A := Finset.univ.filter fun i => t < key i with hA
  set B := Finset.univ.filter fun i => key i = t with hB
  have hmA : ∀ i, i ∈ A ↔ t < key i := fun i => by simp [hA]
  have hmB : ∀ i, i ∈ B ↔ key i = t := fun i => by simp [hB]
  have hAN : A ⊆ N := fun i hi => by
    by_contra h
    have := hpos i h
    have := (hmA i).mp hi
    omega
  have hsplit : (Finset.univ.filter fun i => t ≤ key i).card = A.card + B.card := by
    rw [← Finset.card_union_of_disjoint]
    · congr 1
      ext i
      simp only [Finset.mem_filter, Finset.mem_univ, true_and, Finset.mem_union, hmA, hmB]
      omega
    · rw [Finset.disjoint_left]
      intro i h1 h2
      rw [hmA] at h1; rw [hmB] at h2; omega
  have sumA : (∑ i, if t < key i then g i else 0) = ∑ i ∈ A, g i := by rw [hA, Finset.sum_filter]
  have sumB : (∑ i, if key i = t then g i else 0) = ∑ i ∈ B, g i := by rw [hB, Finset.sum_filter]
  rw [sumA, sumB]
  by_cases hk : A.card < k
  · rw [if_pos hk]
    have hBk : k - A.card ≤ B.card := by omega
    have hBN : B ⊆ N := fun i hi => by
      by_contra h
      have h1 := hpos i h
      have h2 := (hmB i).mp hi
      -- the positives sit exactly at `t`, so every member of `N` lies strictly above: more than `k` of them
      have : N ⊆ A := fun j hj => by rw [hmA]; have := hneg j hj; omega
      have h3 : S.card ≤ A.card := Finset.card_le_card (hS.1.trans this)
      omega
    obtain ⟨E, hEB, hEc⟩ := Finset.exists_subset_card_eq hBk
    have hdisj : Disjoint A E := by
      rw [Finset.disjoint_left]
      intro i h1 h2
      have h2 := hEB h2
      rw [hmA] at h1; rw [hmB] at h2; omega
    have hTop : IsTop N (A ∪ E) δ := by
      refine ⟨Finset.union_subset hAN (hEB.trans hBN), fun i hi j hj hj' => ?_⟩
      have hjA : j ∉ A := fun h => hj' (Finset.mem_union_left _ h)
      rw [hmA] at hjA
      rcases Finset.mem_union.mp hi with h | h
      · have h' := (hmA i).mp h
        exact hkey j hj i (hAN h) (by omega)
      · have h' := (hmB i).mp (hEB h)
        exact hkey j hj i (hBN (hEB h)) (by omega)
    have hcard : S.card = (A ∪ E).card := by rw [Finset.card_union_of_disjoint hdisj, hEc, hSk]; omega
    rw [sum_eq_of_isTop hg hS hTop hcard, Finset.sum_union hdisj]
    congr 1
    have hBpos : 0 < B.card := by omega
    obtain ⟨b, hb⟩ := Finset.card_pos.mp hBpos
    have hc : ∀ i ∈ B, g i = g b := fun i hi =>
      hg i (hBN hi) b (hBN hb) (le_antisymm
        (hkey i (hBN hi) b (hBN hb) (by rw [(hmB i).mp hi, (hmB b).mp hb]))
        (hkey b (hBN hb) i (hBN hi) (by rw [(hmB i).mp hi, (hmB b).mp hb])))
    rw [Finset.sum_congr rfl hc, Finset.sum_congr rfl fun i hi => hc i (hEB hi), Finset.sum_const, Finset.sum_const, hEc,
      Nat.max_eq_left hBpos, nsmul_eq_mul, nsmul_eq_mul]
    have : (B.card : ℝ) ≠ 0 := by exact_mod_cast hBpos.ne'
    have e : (((k : ℤ) - (A.card : ℤ) : ℤ) : ℝ) = ((k - A.card : ℕ) : ℝ) := by
      rw [Nat.cast_sub hk.le]; push_cast; ring
    rw [e]
    field_simp
  · rw [if_neg hk, add_zero]
    have hAk : A.card = k := by omega
    refine (sum_eq_of_isTop hg hS ⟨hAN, fun i hi j hj hj' => ?_⟩ (by rw [hSk, hAk])).symm
    rw [hmA] at hi hj'
    exact hkey j hj i (hAN ((hmA i).mpr hi)) (by omega)

end Cert.Own
-- ==== Proof.KernelBlock.lean ====
/-
  The float half of one task at one grid point: at finite scores, with the precondition on the words, what the kernel
  adds up over a block is, row by row, the positives' focal terms plus the focal terms of any set of the right size that
  holds the negatives of greatest score difference.
-/
module

public import proofs.«01_k».proof.Proof.KernelSearch
public import proofs.«01_k».proof.Proof.Focal
public import proofs.«01_k».proof.Proof.TopSum

@[expose] public section

noncomputable section

namespace Cert.Own

open Idealize.ShloMosaic Cert.KernelIdeal Cert.KernelIdeal.Gen
open scoped BigOperators

/-- A finite sum of reals, taken in the extended reals. -/
theorem sum_real {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- A choice between a real and zero, taken in the extended reals. -/
theorem ite_real (P : Prop) [Decidable P] (x : ℝ) : (if P then (x : EReal) else 0) = ((if P then x else 0 : ℝ) : EReal) := by
  by_cases h : P
  · rw [if_pos h, if_pos h]
  · rw [if_neg h, if_neg h]; rfl

/-- A select on a bit that says `P`. -/
theorem select_iff {α : Type} {c : BitVec 1} {P : Prop} [Decidable P] (h : c = 1#1 ↔ P) (x y : α) :
    Scalar.select c x y = if P then x else y := if_congr h rfl rfl

/-- What one task adds up over one block. -/
def confTask (v0 v2 : Vec Ideal S16x8x2500 .f32) (v4 v6 : Vec Ideal S16x8x2500 .i32) : EReal :=
  k0_pay18 (F := Ideal) (k0_pay6 (F := Ideal) v4) (k0_pay11 (k0_pay8 v0 v2) (k0_pay10 v0 v2))
    (k0_pay12 (k0_pay3 (F := Ideal) v4) (k0_pay9 v0 v2)) (k0_pay13 (k0_pay1 (F := Ideal) v6) (k0_pay3 (F := Ideal) v4))
    (k0_pay16 (k0_pay1 (F := Ideal) v6) (k0_pay3 (F := Ideal) v4) (threshold v4 v6)) (k0_pay17 (threshold v4 v6))

section Terms

variable (v0 v2 : Vec Ideal S16x8x2500 .f32) (i : S16x8x2500.Idx) (a b : ℝ) (ha : v0 i = (a : EReal)) (hb : v2 i = (b : EReal))

include ha hb

theorem pay2_at : k0_pay2 v0 v2 i = ((b - a : ℝ) : EReal) := by
  unfold k0_pay2
  simp only [shapeCast_id]
  show (v2 i : EReal) - v0 i = _
  rw [ha, hb, EReal.coe_sub]

theorem pay8_at : k0_pay8 v0 v2 i = (sp (b - a) : EReal) := by
  show max (k0_pay2 v0 v2 i) (Ideal.ofBits .f32 0#32) + Ideal.log1p (Ideal.exp (Ideal.ofBits .f32 0#32
    - max (k0_pay2 v0 v2 i) (-(k0_pay2 v0 v2 i)))) = _
  rw [pay2_at v0 v2 i a b ha hb, Ideal.ofBits_zero_f32]
  exact kernel_loss _ _ rfl

theorem pay9_at : k0_pay9 v0 v2 i = (sp (-(b - a)) : EReal) := by
  show max (Ideal.ofBits .f32 0#32 - k0_pay2 v0 v2 i) (Ideal.ofBits .f32 0#32) + Ideal.log1p (Ideal.exp (Ideal.ofBits .f32 0#32
    - max (k0_pay2 v0 v2 i) (-(k0_pay2 v0 v2 i)))) = _
  rw [pay2_at v0 v2 i a b ha hb, Ideal.ofBits_zero_f32]
  have e : (0 : EReal) - ((b - a : ℝ) : EReal) = ((-(b - a) : ℝ) : EReal) := by
    rw [zero_sub, EReal.coe_neg]
  rw [e]
  exact kernel_loss _ _ (abs_neg _).symm

theorem pay11_at : k0_pay11 (k0_pay8 v0 v2) (k0_pay10 v0 v2) i = (focal (sp (b - a)) : EReal) := by
  show Ideal.ofBits .f32 0x3E800000#32 * ((Ideal.ofBits .f32 0x3F800000#32 - Ideal.exp (Ideal.ofBits .f32 0#32 - k0_pay8 v0 v2 i))
    * (Ideal.ofBits .f32 0x3F800000#32 - Ideal.exp (Ideal.ofBits .f32 0#32 - k0_pay8 v0 v2 i))) * k0_pay8 v0 v2 i = _
  rw [pay8_at v0 v2 i a b ha hb, Ideal.ofBits_zero_f32, Ideal.ofBits_one_f32, quarter]
  exact kernel_focal _

end Terms

section Block

variable (v0 v2 : Vec Ideal S16x8x2500 .f32) (v4 v6 : Vec Ideal S16x8x2500 .i32) (a b : Fin 16 → Fin 20000 → ℝ)
  (ha : ∀ r p, v0 (pt r p) = (a r p : EReal)) (hb : ∀ r p, v2 (pt r p) = (b r p : EReal))

/-- The positive boxes' part of what a task adds up, before it is summed over the block. -/
def posTerms (v10 : IVec S16x8x2500 1) (v33 : FVec Ideal S16x8x2500 .f32) : FVec Ideal S16x8x2500 .f32 := fun i =>
  Scalar.select (v10 i) (Ideal.ofBits .f32 0x3E800000#32
    * ((Ideal.ofBits .f32 0x3F800000#32 - Ideal.exp (Ideal.ofBits .f32 0#32 - v33 i))
      * (Ideal.ofBits .f32 0x3F800000#32 - Ideal.exp (Ideal.ofBits .f32 0#32 - v33 i))) * v33 i) (Ideal.ofBits .f32 0#32)

theorem pay12_eq (v10 : IVec S16x8x2500 1) (v33 : FVec Ideal S16x8x2500 .f32) :
    k0_pay12 v10 v33 = ∑ r : Fin 16, ∑ p, posTerms v10 v33 (pt r p) :=
  block_total (posTerms v10 v33)

include ha hb in
theorem pay12_block : k0_pay12 (k0_pay3 (F := Ideal) v4) (k0_pay9 v0 v2)
    = ((∑ r : Fin 16, ∑ p, if 0 < BitVec.toInt (v4 (pt r p)) then focal (sp (-(b r p - a r p))) else 0 : ℝ) : EReal) := by
  rw [pay12_eq, ← sum_real]
  refine Finset.sum_congr rfl fun r _ => ?_
  rw [← sum_real]
  refine Finset.sum_congr rfl fun p _ => ?_
  unfold posTerms
  rw [pay9_at v0 v2 _ _ _ (ha r p) (hb r p), Ideal.ofBits_zero_f32, Ideal.ofBits_one_f32, quarter, kernel_focal, ← ite_real]
  unfold Scalar.select
  exact if_congr (pay3_iff v4 _) rfl rfl

/-- The selected negatives' two parts: the terms strictly above the threshold, and the share of the terms at it. -/
def gtTerms (v47 : FVec Ideal S16x8x2500 .f32) (v77 : IVec S16x8x2500 1) : FVec Ideal S16x8x2500 .f32 :=
  fun i => Scalar.select (v77 i) (v47 i) (Ideal.ofBits .f32 0#32)

def eqTerms (v47 : FVec Ideal S16x8x2500 .f32) (v79 : IVec S16x8x2500 1) : FVec Ideal S16x8x2500 .f32 :=
  fun i => Scalar.select (v79 i) (v47 i) (Ideal.ofBits .f32 0#32)

def shareTerms (v20 : IVec S16x1x1 32) (v47 : FVec Ideal S16x8x2500 .f32) (v77 v79 : IVec S16x8x2500 1) :
    FVec Ideal S16x1x1 .f32 := fun j =>
  Scalar.select (IntOp.cmpi .sgt (v20 j) (counted v77 j))
    ((((IntOp.subi (v20 j) (counted v77 j)).toInt : ℝ) : EReal)
      * Ideal.div (shapeCast S16x1x1 (multiReduction .add [1, 2] S16 (eqTerms v47 v79) 0x00000000#32
          reduces_S16x8x2500_S16 (.inl rfl) rfl) shapeCasts_S16_S16x1x1 j)
        (((IntOp.maxsi (counted v79 j) 1#32).toInt : ℝ) : EReal)) (Ideal.ofBits .f32 0#32)

theorem pay18_eq (v20 : IVec S16x1x1 32) (v47 : FVec Ideal S16x8x2500 .f32) (v57 : Ideal .f32) (v64 : IVec S16x8x2500 32)
    (v77 : IVec S16x8x2500 1) (v78 : IVec S16x8x2500 32) :
    k0_pay18 (F := Ideal) v20 v47 v57 v64 v77 v78
      = (v57 + ∑ r : Fin 16, ∑ p, gtTerms v47 v77 (pt r p))
        + ∑ r : Fin 16, shareTerms v20 v47 v77 (cmpi .eq v64 v78) (col r) := by
  rw [← block_total, ← col_total]
  rfl

include ha hb in
/-- A task over a block, at finite scores: every row's positives plus its selected negatives. -/
theorem conf_block (S : Fin 16 → Finset (Fin 20000))
    (hu : ∀ r p, v6 (pt r p) ≠ 4294967295#32)
    (hw : ∀ r p q, (rawKey (v6 (pt r p))).toInt ≤ (rawKey (v6 (pt r q))).toInt → b r p - a r p ≤ b r q - a r q)
    (hS : ∀ r, IsTop (Finset.univ.filter fun p => ¬ 0 < BitVec.toInt (v4 (pt r p))) (S r) fun p => b r p - a r p)
    (hc : ∀ r, (S r).card = nNeg (rowOf v4 r)) :
    confTask v0 v2 v4 v6 = ((∑ r : Fin 16, ((∑ p, if 0 < BitVec.toInt (v4 (pt r p)) then focal (sp (-(b r p - a r p))) else 0)
      + ∑ p ∈ S r, focal (sp (b r p - a r p))) : ℝ) : EReal) := by
  unfold confTask
  rw [pay18_eq, pay12_block v0 v2 v4 a b ha hb]
  set T : Fin 16 → ℤ := fun r => (threshold v4 v6 (col r)).toInt with hT
  have hgt : ∀ r p, k0_pay16 (k0_pay1 (F := Ideal) v6) (k0_pay3 (F := Ideal) v4) (threshold v4 v6) (pt r p) = 1#1
      ↔ T r < (rowKey v4 v6 r p).toInt := by
    intro r p
    show IntOp.cmpi .sgt (k0_pay13 _ _ (pt r p)) (broadcastTo S16x8x2500 _ broadcasts_S16x1x1_S16x8x2500 (pt r p)) = 1#1 ↔ _
    rw [pay13_at, spread_at, sgt_iff]
  have heq : ∀ r p, cmpi .eq (k0_pay13 (k0_pay1 (F := Ideal) v6) (k0_pay3 (F := Ideal) v4)) (k0_pay17 (threshold v4 v6)) (pt r p) = 1#1
      ↔ (rowKey v4 v6 r p).toInt = T r := by
    intro r p
    show IntOp.cmpi .eq (k0_pay13 _ _ (pt r p)) (broadcastTo S16x8x2500 _ broadcasts_S16x1x1_S16x8x2500 (pt r p)) = 1#1 ↔ _
    rw [pay13_at, spread_at, eq_iff]
    exact Iff.rfl
  set v77 := k0_pay16 (k0_pay1 (F := Ideal) v6) (k0_pay3 (F := Ideal) v4) (threshold v4 v6) with h77
  set v79 := cmpi .eq (k0_pay13 (k0_pay1 (F := Ideal) v6) (k0_pay3 (F := Ideal) v4)) (k0_pay17 (threshold v4 v6)) with h79
  set v47 := k0_pay11 (k0_pay8 v0 v2) (k0_pay10 v0 v2) with h47
  have h47at : ∀ r p, v47 (pt r p) = (focal (sp (b r p - a r p)) : EReal) := fun r p =>
    pay11_at v0 v2 _ _ _ (ha r p) (hb r p)
  have gtAt : ∀ r p, gtTerms v47 v77 (pt r p)
      = ((if T r < (rowKey v4 v6 r p).toInt then focal (sp (b r p - a r p)) else 0 : ℝ) : EReal) := by
    intro r p
    unfold gtTerms Scalar.select
    rw [h47at, Ideal.ofBits_zero_f32, ← ite_real]
    exact if_congr (hgt r p) rfl rfl
  have eqAt : ∀ r p, eqTerms v47 v79 (pt r p)
      = ((if (rowKey v4 v6 r p).toInt = T r then focal (sp (b r p - a r p)) else 0 : ℝ) : EReal) := by
    intro r p
    unfold eqTerms Scalar.select
    rw [h47at, Ideal.ofBits_zero_f32, ← ite_real]
    exact if_congr (heq r p) rfl rfl
  have cgt : ∀ r, counted v77 (col r) = BitVec.ofNat 32 (Finset.univ.filter fun p => T r < (rowKey v4 v6 r p).toInt).card := by
    intro r
    refine (row_count _ r).trans ?_
    simp only [hgt]
  have ceq : ∀ r, counted v79 (col r) = BitVec.ofNat 32 (Finset.univ.filter fun p => (rowKey v4 v6 r p).toInt = T r).card := by
    intro r
    refine (row_count _ r).trans ?_
    simp only [heq]
  have shareAt : ∀ r, shareTerms (k0_pay6 (F := Ideal) v4) v47 v77 v79 (col r)
      = ((if (Finset.univ.filter fun p => T r < (rowKey v4 v6 r p).toInt).card < nNeg (rowOf v4 r) then
          (((nNeg (rowOf v4 r) : ℤ) - (Finset.univ.filter fun p => T r < (rowKey v4 v6 r p).toInt).card : ℤ) : ℝ)
            * ((∑ p, if (rowKey v4 v6 r p).toInt = T r then focal (sp (b r p - a r p)) else 0)
              * ((max (Finset.univ.filter fun p => (rowKey v4 v6 r p).toInt = T r).card 1 : ℕ) : ℝ)⁻¹) else 0 : ℝ) : EReal) := by
    intro r
    have l1 := nNeg_le (rowOf v4 r)
    have l2 := card_row_le fun p => T r < (rowKey v4 v6 r p).toInt
    have l3 := card_row_le fun p => (rowKey v4 v6 r p).toInt = T r
    unfold shareTerms
    rw [row_total, pay6_row, cgt, ceq, show (1#32 : BitVec 32) = BitVec.ofNat 32 1 from rfl, maxsi_small (by omega) (by omega),
      toInt_small (by omega), Ideal.ofBits_zero_f32, ← ite_real]
    simp only [eqAt]
    rw [sum_real]
    rw [select_iff (P := (Finset.univ.filter fun p => T r < (rowKey v4 v6 r p).toInt).card < nNeg (rowOf v4 r)) (by
      rw [sgt_iff, toInt_small (by omega), toInt_small (by omega)]; exact_mod_cast Iff.rfl)]
    by_cases hk : (Finset.univ.filter fun p => T r < (rowKey v4 v6 r p).toInt).card < nNeg (rowOf v4 r)
    · rw [if_pos hk, if_pos hk, subi_small (by omega) hk.le, toInt_small (by omega)]
      have hne : (((max (Finset.univ.filter fun p => (rowKey v4 v6 r p).toInt = T r).card 1 : ℕ) : ℝ) : EReal) ≠ 0 := by
        have : (((max (Finset.univ.filter fun p => (rowKey v4 v6 r p).toInt = T r).card 1 : ℕ) : ℝ)) ≠ 0 := by
          have : 0 < max (Finset.univ.filter fun p => (rowKey v4 v6 r p).toInt = T r).card 1 := by omega
          exact_mod_cast this.ne'
        exact_mod_cast this
      unfold Ideal.div
      simp only [Int.cast_natCast]
      rw [if_neg hne, ← EReal.coe_inv, ← EReal.coe_mul, ← EReal.coe_mul, Nat.cast_sub hk.le, Int.cast_sub, Int.cast_natCast,
        Int.cast_natCast]
    · rw [if_neg hk, if_neg hk]
  simp only [gtAt, shareAt, sum_real]
  rw [← EReal.coe_add, ← EReal.coe_add, ← Finset.sum_add_distrib, ← Finset.sum_add_distrib]
  refine EReal.coe_eq_coe_iff.2 (Finset.sum_congr rfl fun r _ => ?_)
  rw [add_assoc]
  refine congrArg (HAdd.hAdd _) ?_
  have hs := threshold_searched v4 v6 r
  have key1 : ∀ p, 0 < BitVec.toInt (v4 (pt r p)) → (rowKey v4 v6 r p).toInt = -2147483648 := by
    intro p hp
    show (boxKey _ _).toInt = _
    unfold boxKey
    rw [if_pos hp, least_toInt]
  have key2 : ∀ p, ¬ 0 < BitVec.toInt (v4 (pt r p)) → rowKey v4 v6 r p = rawKey (v6 (pt r p)) := by
    intro p hp
    show boxKey _ _ = _
    unfold boxKey
    rw [if_neg hp]
  refine sum_threshold (Finset.univ.filter fun p => ¬ 0 < BitVec.toInt (v4 (pt r p))) (S r) (fun p => (rowKey v4 v6 r p).toInt)
    (fun p => b r p - a r p) (fun p => focal (sp (b r p - a r p))) (-2147483648) ?_ ?_ ?_ ?_ (nNeg (rowOf v4 r)) (hS r) (hc r) (T r) ?_ ?_ ?_
  · intro p hp
    simp only [Finset.mem_filter, Finset.mem_univ, true_and, not_not] at hp
    exact key1 p hp
  · intro p hp
    simp only [Finset.mem_filter, Finset.mem_univ, true_and] at hp
    rw [key2 p hp]
    exact rawKey_gt (hu r p)
  · intro p hp q hq h
    simp only [Finset.mem_filter, Finset.mem_univ, true_and] at hp hq
    rw [key2 p hp, key2 q hq] at h
    exact hw r p q h
  · intro p _ q _ h
    exact congrArg (fun x => focal (sp x)) h
  · exact word_le_toInt _
  · exact hs.2.1
  · have h3 := hs.2.2
    unfold cntAt at h3
    refine le_trans (le_of_eq ?_) h3
    congr 1

end Block

end Cert.Own
-- ==== Proof.KernelLoc.lean ====
/-
  The other two numbers a grid point adds up: the smooth-L1 terms of the positive boxes, and the count of positives,
  each row counted at least once.
-/
module

public import proofs.«01_k».proof.Proof.KernelSearch

@[expose] public section

noncomputable section

namespace Cert.Own

open Idealize.ShloMosaic Cert.KernelIdeal Cert.KernelIdeal.Gen
open scoped BigOperators

/-- The smooth-L1 term of two values. -/
def sl1 (x y : EReal) : EReal :=
  Scalar.select (Ideal.cmp .olt (max (x - y) (-(x - y))) (Ideal.ofBits .f32 0x3F800000#32))
    (Ideal.ofBits .f32 0x3F000000#32 * (x - y) * (x - y)) (max (x - y) (-(x - y)) - Ideal.ofBits .f32 0x3F000000#32)

/-- Where coordinate `k` of box `p` of row `r` lies in a block of box coordinates. -/
def pt4 (r : Fin 16) (k : Fin 4) (p : Fin 20000) : S16x4x8x2500.Idx :=
  ix4 r k (⟨p.val / 2500, by omega⟩ : Fin 8) (⟨p.val % 2500, Nat.mod_lt _ (by norm_num)⟩ : Fin 2500)

theorem pay46_at (x y : Vec Ideal S16x4x8x2500 .f32) (i : S16x4x8x2500.Idx) : k0_pay46 x y i = sl1 (x i) (y i) := by
  unfold k0_pay46
  simp only [shapeCast_id]
  rfl

/-- One coordinate's plane of a block of box coordinates, at a box. -/
theorem plane_at (x : FVec Ideal S16x4x8x2500 .f32) (off : Fin 4 → ℕ) (k : Fin 4) (h : S16x4x8x2500.Slices off S16x1x8x2500)
    (h0 : off 0 = 0) (h1 : off 1 = k.val) (h2 : off 2 = 0) (h3 : off 3 = 0) (r : Fin 16) (p : Fin 20000) :
    shapeCast S16x8x2500 (extractStridedSlice S16x1x8x2500 off x h) shapeCasts_S16x1x8x2500_S16x8x2500 (pt r p)
      = x (pt4 r k p) := by
  rw [shapeCast_apply _ _ _ (ix4 r (0 : Fin 1) (⟨p.val / 2500, by omega⟩ : Fin 8)
    (⟨p.val % 2500, Nat.mod_lt _ (by norm_num)⟩ : Fin 2500)) (by
      rw [Shape.rowMajor_val_three, Shape.rowMajor_val_four]
      show ((r.val * 1 + 0) * 8 + p.val / 2500) * 2500 + p.val % 2500 = (r.val * 8 + p.val / 2500) * 2500 + p.val % 2500
      omega)]
  unfold extractStridedSlice
  refine congrArg x (funext fun a => Fin.ext ?_)
  fin_cases a
  · show off 0 + r.val = r.val
    omega
  · show off 1 + 0 = k.val
    omega
  · show off 2 + p.val / 2500 = p.val / 2500
    omega
  · show off 3 + p.val % 2500 = p.val % 2500
    omega

/-- The smooth-L1 terms of a block before they are summed. -/
def locTerms (v247 : FVec Ideal S16x4x8x2500 .f32) (v4 : Vec Ideal S16x8x2500 .i32) : FVec Ideal S16x8x2500 .f32 := fun i =>
  Scalar.select (IntOp.cmpi .sgt (shapeCast S16x8x2500 v4 shapeCasts_S16x8x2500_S16x8x2500 i) 0#32)
    (((shapeCast S16x8x2500 (extractStridedSlice S16x1x8x2500 ![0, 0, 0, 0] v247 slices_S16x4x8x2500_o0_0_0_0_S16x1x8x2500)
          shapeCasts_S16x1x8x2500_S16x8x2500 i
        + shapeCast S16x8x2500 (extractStridedSlice S16x1x8x2500 ![0, 1, 0, 0] v247 slices_S16x4x8x2500_o0_1_0_0_S16x1x8x2500)
          shapeCasts_S16x1x8x2500_S16x8x2500 i)
        + shapeCast S16x8x2500 (extractStridedSlice S16x1x8x2500 ![0, 2, 0, 0] v247 slices_S16x4x8x2500_o0_2_0_0_S16x1x8x2500)
          shapeCasts_S16x1x8x2500_S16x8x2500 i)
        + shapeCast S16x8x2500 (extractStridedSlice S16x1x8x2500 ![0, 3, 0, 0] v247 slices_S16x4x8x2500_o0_3_0_0_S16x1x8x2500)
          shapeCasts_S16x1x8x2500_S16x8x2500 i : EReal) (Ideal.ofBits .f32 0#32)

theorem pay47_eq (v247 : FVec Ideal S16x4x8x2500 .f32) (v4 : Vec Ideal S16x8x2500 .i32) (prev : Ideal .f32) :
    k0_pay47 (F := Ideal) v247 v4 prev = prev + ∑ r : Fin 16, ∑ p, locTerms v247 v4 (pt r p) := by
  rw [← block_total]
  rfl

/-- What a grid point adds to the smooth-L1 total. -/
def locTask (x y : Vec Ideal S16x4x8x2500 .f32) (v4 : Vec Ideal S16x8x2500 .i32) : EReal :=
  ∑ r : Fin 16, ∑ p, if 0 < BitVec.toInt (v4 (pt r p)) then
    ∑ k : Fin 4, sl1 (x (pt4 r k p)) (y (pt4 r k p)) else 0

theorem loc_block (x y : Vec Ideal S16x4x8x2500 .f32) (v4 : Vec Ideal S16x8x2500 .i32) (prev : Ideal .f32) :
    k0_pay47 (F := Ideal) (k0_pay46 x y) v4 prev = prev + locTask x y v4 := by
  rw [pay47_eq]
  unfold locTask
  refine congrArg (HAdd.hAdd (prev : EReal)) ?_
  refine Finset.sum_congr rfl fun r _ => Finset.sum_congr rfl fun p _ => ?_
  unfold locTerms
  rw [plane_at _ ![0, 0, 0, 0] 0 _ rfl rfl rfl rfl, plane_at _ ![0, 1, 0, 0] 1 _ rfl rfl rfl rfl, plane_at _ ![0, 2, 0, 0] 2 _ rfl rfl rfl rfl,
    plane_at _ ![0, 3, 0, 0] 3 _ rfl rfl rfl rfl, shapeCast_id, Ideal.ofBits_zero_f32, Fin.sum_univ_four]
  simp only [pay46_at]
  exact if_congr (sgt_iff _ _) rfl rfl

theorem pay19_eq (v15 : IVec S16x1x1 32) :
    k0_pay19 (F := Ideal) v15 = (((extractAt ![0, 0, 0, 0] (shapeCast S1x1x1x1 (multiReductionI .add [1, 2, 3] S1
        (shapeCast S1x16x1x1 v15 shapeCasts_S16x1x1_S1x16x1x1) 0#32 reduces_S1x16x1x1_S1 rfl)
        shapeCasts_S1_S1x1x1x1) inpos_S1x1x1x1_p0_0_0_0).toInt : ℝ) : EReal) := rfl

/-- What a grid point adds to a task's count of positives. -/
theorem npp_block (v4 : Vec Ideal S16x8x2500 .i32) :
    k0_pay19 (F := Ideal) (k0_pay5 (F := Ideal) v4) = (((∑ r : Fin 16, nPosOne (rowOf v4 r) : ℕ) : ℝ) : EReal) := by
  have e : ∀ r, (k0_pay5 (F := Ideal) v4 (col r)).toNat = nPosOne (rowOf v4 r) := by
    intro r
    have := nPosOne_le (rowOf v4 r)
    rw [pay5_row, BitVec.toNat_ofNat, Nat.mod_eq_of_lt (by omega)]
  have hb : ∑ r : Fin 16, nPosOne (rowOf v4 r) ≤ 320000 := by
    refine (Finset.sum_le_sum fun r _ => nPosOne_le (rowOf v4 r)).trans ?_
    simp
  have h := col_total_word (k0_pay5 (F := Ideal) v4) (by simp only [e]; omega)
  simp only [e] at h
  refine (pay19_eq _).trans ?_
  refine EReal.coe_eq_coe_iff.2 ?_
  rw [← h, BitVec.toInt_eq_toNat_of_lt (by rw [h]; omega), Int.cast_natCast]

end Cert.Own
-- ==== Proof.KernelOut.lean ====
/-
  What one grid point leaves in the five accumulated words: the first point starts each of them from zero, the second
  adds to what the first left.
-/
module

public import proofs.«01_k».proof.Proof.Gen.KernelIdeal.Frame
public import proofs.«01_k».proof.Proof.KernelBlock
public import proofs.«01_k».proof.Proof.KernelLoc
public import Idealize.ShloMosaic.Lib.Tactic.Stretches
public import Idealize.ShloMosaic.Lib.Pipeline.Value
public import Idealize.ShloMosaic.Lib.CellWrites

@[expose] public section

set_option maxRecDepth 16384

noncomputable section

namespace Cert.Own

open Idealize.ShloMosaic Idealize.ShloMosaic.TcCoe Cert.KernelIdeal Cert.KernelIdeal.Gen
open scoped BigOperators

theorem zeros3 : (![0, 0, 0] : Fin 3 → Nat) = fun _ => 0 := funext fun a => by fin_cases a <;> rfl

theorem zeros4 : (![0, 0, 0, 0] : Fin 4 → Nat) = fun _ => 0 := funext fun a => by fin_cases a <;> rfl

/-- One word read out of the five. -/
theorem one_word (xo : Vec Ideal S5 .f32) (w : ℕ) (hw : w < 5) (h : ∀ a, (![w] : Fin 1 → ℕ) a + (![1] : Fin 1 → ℕ) a ≤ S5.size a)
    (h' : 0 < (Rect.unit (s := S5) ![w] ![1] h).shape.numel) :
    View.ld (Val := Elt Ideal) (e' := .f32) xo (Rect.unit (s := S5) ![w] ![1] h) (Shape.Idx.first h') = xo (ix1 (⟨w, hw⟩ : Fin 5)) := by
  unfold View.ld
  refine congrArg xo (funext fun a => Fin.ext ?_)
  fin_cases a
  show w + 1 * 0 = w
  omega

variable (c : Dev nD) (i : grid0.Coords)
  (a1 : Memref sig .tc .vmem S16x8x2500 .f32) (h1 : a1.IsWhole)
  (a2 : Memref sig .tc .vmem S16x8x2500 .f32) (h2 : a2.IsWhole)
  (a3 : Memref sig .tc .vmem S16x8x2500 .f32) (h3 : a3.IsWhole)
  (a4 : Memref sig .tc .vmem S16x8x2500 .f32) (h4 : a4.IsWhole)
  (a5 : Memref sig .tc .vmem S16x8x2500 .i32) (h5 : a5.IsWhole)
  (a6 : Memref sig .tc .vmem S16x8x2500 .i32) (h6 : a6.IsWhole)
  (a7 : Memref sig .tc .vmem S16x4x8x2500 .f32) (h7 : a7.IsWhole)
  (a8 : Memref sig .tc .vmem S16x4x8x2500 .f32) (h8 : a8.IsWhole)
  (a9 : Memref sig .tc .vmem S16x8x2500 .i32) (h9 : a9.IsWhole)
  (a10 : Memref sig .tc .vmem S16x8x2500 .i32) (h10 : a10.IsWhole)
  (a11 : Memref sig .tc .smem S5 .f32) (h11 : a11.IsWhole)
  (x0 : Vec Ideal S16x8x2500 .f32)  (x1 : Vec Ideal S16x8x2500 .f32)  (x2 : Vec Ideal S16x8x2500 .f32)
  (x3 : Vec Ideal S16x8x2500 .f32)  (x4 : Vec Ideal S16x8x2500 .i32)  (x5 : Vec Ideal S16x8x2500 .i32)
  (x6 : Vec Ideal S16x4x8x2500 .f32)  (x7 : Vec Ideal S16x4x8x2500 .f32)  (x8 : Vec Ideal S16x8x2500 .i32)
  (x9 : Vec Ideal S16x8x2500 .i32)

/-- First point: the box terms. -/
theorem out_A_0 (hc : cond0_0 i) :
    out0_A_10 c i a1 h1 a2 h2 a3 h3 a4 h4 a5 h5 a6 h6 a7 h7 a8 h8 a9 h9 a10 h10 a11 h11 hc x0 x1 x2 x3 x4 x5 x6 x7 x8 x9 (ix1 0) = Ideal.ofBits .f32 0x00000000#32 + locTask x6 x7 x4 := by
  unfold out0_A_10 kernelRun0_A
  dsimp only
  rw [View.read_writes_cons_cell, if_neg (by decide)]
  rw [View.read_writes_cons_cell, if_neg (by decide)]
  rw [View.read_writes_cons_cell, if_neg (by decide)]
  rw [View.read_writes_cons_cell, if_neg (by decide)]
  rw [View.read_writes_cons_cell, if_pos (by decide)]
  sl_open_run
  simp only [View.readAt_eq_ld, h1.read_unread, h2.read_unread, h3.read_unread, h4.read_unread, h5.read_unread, h6.read_unread,
    h7.read_unread, h8.read_unread, h9.read_unread, h10.read_unread, View.ld_unit_zero (S := S16x8x2500) zeros3,
    View.ld_unit_zero (S := S16x4x8x2500) zeros4]
  exact loc_block _ _ _ _

/-- First point: the player's loss. -/
theorem out_A_1 (hc : cond0_0 i) :
    out0_A_10 c i a1 h1 a2 h2 a3 h3 a4 h4 a5 h5 a6 h6 a7 h7 a8 h8 a9 h9 a10 h10 a11 h11 hc x0 x1 x2 x3 x4 x5 x6 x7 x8 x9 (ix1 1) = Ideal.ofBits .f32 0x00000000#32 + confTask x0 x1 x4 x8 := by
  unfold out0_A_10 kernelRun0_A
  dsimp only
  rw [View.read_writes_cons_cell, if_neg (by decide)]
  rw [View.read_writes_cons_cell, if_neg (by decide)]
  rw [View.read_writes_cons_cell, if_neg (by decide)]
  rw [View.read_writes_cons_cell, if_pos (by decide)]
  sl_open_run
  simp only [View.readAt_eq_ld, h1.read_unread, h2.read_unread, h3.read_unread, h4.read_unread, h5.read_unread, h6.read_unread,
    h7.read_unread, h8.read_unread, h9.read_unread, h10.read_unread, View.ld_unit_zero (S := S16x8x2500) zeros3,
    View.ld_unit_zero (S := S16x4x8x2500) zeros4]
  rfl

/-- First point: the ball's loss. -/
theorem out_A_2 (hc : cond0_0 i) :
    out0_A_10 c i a1 h1 a2 h2 a3 h3 a4 h4 a5 h5 a6 h6 a7 h7 a8 h8 a9 h9 a10 h10 a11 h11 hc x0 x1 x2 x3 x4 x5 x6 x7 x8 x9 (ix1 2) = Ideal.ofBits .f32 0x00000000#32 + confTask x2 x3 x5 x9 := by
  unfold out0_A_10 kernelRun0_A
  dsimp only
  rw [View.read_writes_cons_cell, if_neg (by decide)]
  rw [View.read_writes_cons_cell, if_neg (by decide)]
  rw [View.read_writes_cons_cell, if_pos (by decide)]
  sl_open_run
  simp only [View.readAt_eq_ld, h1.read_unread, h2.read_unread, h3.read_unread, h4.read_unread, h5.read_unread, h6.read_unread,
    h7.read_unread, h8.read_unread, h9.read_unread, h10.read_unread, View.ld_unit_zero (S := S16x8x2500) zeros3,
    View.ld_unit_zero (S := S16x4x8x2500) zeros4]
  rfl

/-- First point: the player's count. -/
theorem out_A_3 (hc : cond0_0 i) :
    out0_A_10 c i a1 h1 a2 h2 a3 h3 a4 h4 a5 h5 a6 h6 a7 h7 a8 h8 a9 h9 a10 h10 a11 h11 hc x0 x1 x2 x3 x4 x5 x6 x7 x8 x9 (ix1 3) = Ideal.ofBits .f32 0x00000000#32 + (k0_pay19 (F := Ideal) (k0_pay5 x4) : EReal) := by
  unfold out0_A_10 kernelRun0_A
  dsimp only
  rw [View.read_writes_cons_cell, if_neg (by decide)]
  rw [View.read_writes_cons_cell, if_pos (by decide)]
  sl_open_run
  simp only [View.readAt_eq_ld, h1.read_unread, h2.read_unread, h3.read_unread, h4.read_unread, h5.read_unread, h6.read_unread,
    h7.read_unread, h8.read_unread, h9.read_unread, h10.read_unread, View.ld_unit_zero (S := S16x8x2500) zeros3,
    View.ld_unit_zero (S := S16x4x8x2500) zeros4]
  rfl

/-- First point: the ball's count. -/
theorem out_A_4 (hc : cond0_0 i) :
    out0_A_10 c i a1 h1 a2 h2 a3 h3 a4 h4 a5 h5 a6 h6 a7 h7 a8 h8 a9 h9 a10 h10 a11 h11 hc x0 x1 x2 x3 x4 x5 x6 x7 x8 x9 (ix1 4) = Ideal.ofBits .f32 0x00000000#32 + (k0_pay19 (F := Ideal) (k0_pay5 x5) : EReal) := by
  unfold out0_A_10 kernelRun0_A
  dsimp only
  rw [View.read_writes_cons_cell, if_pos (by decide)]
  sl_open_run
  simp only [View.readAt_eq_ld, h1.read_unread, h2.read_unread, h3.read_unread, h4.read_unread, h5.read_unread, h6.read_unread,
    h7.read_unread, h8.read_unread, h9.read_unread, h10.read_unread, View.ld_unit_zero (S := S16x8x2500) zeros3,
    View.ld_unit_zero (S := S16x4x8x2500) zeros4]
  rfl

/-- Second point: the box terms. -/
theorem out_B_0 (hc : ¬cond0_0 i) (xo : Vec Ideal S5 .f32) :
    out0_B_10 c i a1 h1 a2 h2 a3 h3 a4 h4 a5 h5 a6 h6 a7 h7 a8 h8 a9 h9 a10 h10 a11 h11 hc x0 x1 x2 x3 x4 x5 x6 x7 x8 x9 xo (ix1 0) = xo (ix1 0) + locTask x6 x7 x4 := by
  unfold out0_B_10 kernelRun0_B
  dsimp only
  rw [View.read_writes_cons_cell, if_neg (by decide)]
  rw [View.read_writes_cons_cell, if_neg (by decide)]
  rw [View.read_writes_cons_cell, if_neg (by decide)]
  rw [View.read_writes_cons_cell, if_neg (by decide)]
  rw [View.read_writes_cons_cell, if_pos (by decide)]
  sl_open_run
  simp only [View.readAt_eq_ld, h1.read_unread, h2.read_unread, h3.read_unread, h4.read_unread, h5.read_unread, h6.read_unread,
    h7.read_unread, h8.read_unread, h9.read_unread, h10.read_unread, h11.read_unread, View.ld_unit_zero (S := S16x8x2500) zeros3,
    View.ld_unit_zero (S := S16x4x8x2500) zeros4]
  rw [one_word xo 0 (by norm_num)]
  exact loc_block _ _ _ _

/-- Second point: the player's loss. -/
theorem out_B_1 (hc : ¬cond0_0 i) (xo : Vec Ideal S5 .f32) :
    out0_B_10 c i a1 h1 a2 h2 a3 h3 a4 h4 a5 h5 a6 h6 a7 h7 a8 h8 a9 h9 a10 h10 a11 h11 hc x0 x1 x2 x3 x4 x5 x6 x7 x8 x9 xo (ix1 1) = xo (ix1 1) + confTask x0 x1 x4 x8 := by
  unfold out0_B_10 kernelRun0_B
  dsimp only
  rw [View.read_writes_cons_cell, if_neg (by decide)]
  rw [View.read_writes_cons_cell, if_neg (by decide)]
  rw [View.read_writes_cons_cell, if_neg (by decide)]
  rw [View.read_writes_cons_cell, if_pos (by decide)]
  sl_open_run
  simp only [View.readAt_eq_ld, h1.read_unread, h2.read_unread, h3.read_unread, h4.read_unread, h5.read_unread, h6.read_unread,
    h7.read_unread, h8.read_unread, h9.read_unread, h10.read_unread, h11.read_unread, View.ld_unit_zero (S := S16x8x2500) zeros3,
    View.ld_unit_zero (S := S16x4x8x2500) zeros4]
  rw [one_word xo 1 (by norm_num)]
  rfl

/-- Second point: the ball's loss. -/
theorem out_B_2 (hc : ¬cond0_0 i) (xo : Vec Ideal S5 .f32) :
    out0_B_10 c i a1 h1 a2 h2 a3 h3 a4 h4 a5 h5 a6 h6 a7 h7 a8 h8 a9 h9 a10 h10 a11 h11 hc x0 x1 x2 x3 x4 x5 x6 x7 x8 x9 xo (ix1 2) = xo (ix1 2) + confTask x2 x3 x5 x9 := by
  unfold out0_B_10 kernelRun0_B
  dsimp only
  rw [View.read_writes_cons_cell, if_neg (by decide)]
  rw [View.read_writes_cons_cell, if_neg (by decide)]
  rw [View.read_writes_cons_cell, if_pos (by decide)]
  sl_open_run
  simp only [View.readAt_eq_ld, h1.read_unread, h2.read_unread, h3.read_unread, h4.read_unread, h5.read_unread, h6.read_unread,
    h7.read_unread, h8.read_unread, h9.read_unread, h10.read_unread, h11.read_unread, View.ld_unit_zero (S := S16x8x2500) zeros3,
    View.ld_unit_zero (S := S16x4x8x2500) zeros4]
  rw [one_word xo 2 (by norm_num)]
  rfl

/-- Second point: the player's count. -/
theorem out_B_3 (hc : ¬cond0_0 i) (xo : Vec Ideal S5 .f32) :
    out0_B_10 c i a1 h1 a2 h2 a3 h3 a4 h4 a5 h5 a6 h6 a7 h7 a8 h8 a9 h9 a10 h10 a11 h11 hc x0 x1 x2 x3 x4 x5 x6 x7 x8 x9 xo (ix1 3) = xo (ix1 3) + (k0_pay19 (F := Ideal) (k0_pay5 x4) : EReal) := by
  unfold out0_B_10 kernelRun0_B
  dsimp only
  rw [View.read_writes_cons_cell, if_neg (by decide)]
  rw [View.read_writes_cons_cell, if_pos (by decide)]
  sl_open_run
  simp only [View.readAt_eq_ld, h1.read_unread, h2.read_unread, h3.read_unread, h4.read_unread, h5.read_unread, h6.read_unread,
    h7.read_unread, h8.read_unread, h9.read_unread, h10.read_unread, h11.read_unread, View.ld_unit_zero (S := S16x8x2500) zeros3,
    View.ld_unit_zero (S := S16x4x8x2500) zeros4]
  rw [one_word xo 3 (by norm_num)]
  rfl

/-- Second point: the ball's count. -/
theorem out_B_4 (hc : ¬cond0_0 i) (xo : Vec Ideal S5 .f32) :
    out0_B_10 c i a1 h1 a2 h2 a3 h3 a4 h4 a5 h5 a6 h6 a7 h7 a8 h8 a9 h9 a10 h10 a11 h11 hc x0 x1 x2 x3 x4 x5 x6 x7 x8 x9 xo (ix1 4) = xo (ix1 4) + (k0_pay19 (F := Ideal) (k0_pay5 x5) : EReal) := by
  unfold out0_B_10 kernelRun0_B
  dsimp only
  rw [View.read_writes_cons_cell, if_pos (by decide)]
  sl_open_run
  simp only [View.readAt_eq_ld, h1.read_unread, h2.read_unread, h3.read_unread, h4.read_unread, h5.read_unread, h6.read_unread,
    h7.read_unread, h8.read_unread, h9.read_unread, h10.read_unread, h11.read_unread, View.ld_unit_zero (S := S16x8x2500) zeros3,
    View.ld_unit_zero (S := S16x4x8x2500) zeros4]
  rw [one_word xo 4 (by norm_num)]
  rfl

end Cert.Own
-- ==== Proof.KernelRun.lean ====
/-
  What the kernel's five words hold when its run ends, and its three results: quotients of those words.
-/
module

public import proofs.«01_k».proof.Proof.KernelOut
public import Idealize.ShloMosaic.Lib.Claim
public import Idealize.ShloMosaic.Lib.Tactic
public import Idealize.ShloMosaic.Lib.StableHlo.Run
public import Idealize.ShloMosaic.Lib.Quiescent

@[expose] public section

set_option maxRecDepth 16384

noncomputable section

namespace Cert.Own

open Idealize.ShloMosaic Idealize.ShloMosaic.TcCoe Idealize.SL.Sem Cert.KernelIdeal Cert.KernelIdeal.Gen
open Idealize.ShloMosaic.Pipeline (Dat)
open scoped BigOperators

variable (m : (ℓ : Loc nD τ sig) → Buf (Elt Ideal) ℓ) (ρ : Dev nD → PrngReg) (c : Dev nD)

/-- The five words after the second point. -/
def words : Vec Ideal S5 .f32 := outsAt0 m c t0_1.val t0_1.isLt

/-- The one write-back, after the second point, writes them. -/
theorem words_flushed (t : Fin cfg0.N) (hf : (cfg0.win 10).flush t = true) :
    (dats m 0 c).flushed 10 t = ((cfg0.win 10).blk t).view.read (Elt Ideal) (words m c : Buf (Elt Ideal) ((c : Thread nD τ).loc main_v20)) := by
  have hN : cfg0.N = 2 := N_0
  have h1 : t.val = 1 := by have := (flush0_10 t).mp hf; have := t.isLt; omega
  obtain rfl : t = t0_1 := Fin.ext h1
  show (cfg0.win 10).cut (grid0.coords t0_1) ((dats m 0 c).after 10 t0_1) = _
  rw [after0_10]
  have hz : (fun a => win0_10.index t0_1 a * main_v20.ty.shape.size a) = fun _ => 0 := funext fun a => by fin_cases a; decide
  exact (Memref.read_access_unit_zero (Elt Ideal) main_v20 hz (fun a => by rw [congrFun hz a]; simp) (words m c)).symm

/-- So the kernel's array ends holding them. -/
theorem words_final : (dats m 0 c).arrAt 10 cfg0.N = (words m c : Buf (Elt Ideal) ((c : Thread nD τ).loc main_v20)) :=
  (dats m 0 c).arrAt_eq_of_cover 10 _ (words_flushed m c) fun i =>
    ⟨t0_1, (flush0_10 t0_1).mpr rfl, by
      show i ∈ ((View.whole main_v20).slice (win0_10.rect t0_1)).set
      rw [View.set_slice_whole, Rect.mem_set_unit]
      intro a
      have h0 : (i 0 : Nat) < 5 := (i 0).isLt
      match a with
      | ⟨0, _⟩ => show win0_10.index t0_1 0 * win0_10.size 0 ≤ (i 0 : Nat) ∧ (i 0 : Nat) < win0_10.index t0_1 0 * win0_10.size 0 + win0_10.xsize (grid0.coords t0_1) 0
                  rw [show win0_10.index t0_1 0 * win0_10.size 0 = 0 from by decide +kernel, show win0_10.xsize (grid0.coords t0_1) 0 = 5 from by decide +kernel]; omega⟩

/-- One result: the quotient of two of the words. -/
def ratio (X : Vec Ideal S5 .f32) (a b : Fin 5) : FVec Ideal S_ .f32 := fun _ => Ideal.div (X (ix1 a)) (X (ix1 b))

/-- One of the five words as a scalar array. -/
theorem scalar_word (X : Vec Ideal S5 .f32) (w : ℕ) (hw : w < 5) (h : S5.Slices ![w] S1) (h' : S1.ShapeCasts S_) (j : S_.Idx) :
    shapeCast S_ (extractStridedSlice S1 ![w] X h) h' j = X (ix1 (⟨w, hw⟩ : Fin 5)) := by
  rw [shapeCast_apply _ _ _ (ix1 (0 : Fin 1)) (by
    have h1 : (S1.rowMajor (ix1 (0 : Fin 1))).val < 1 := (S1.rowMajor (ix1 (0 : Fin 1))).isLt.trans_le (by decide)
    have h2 : (S_.rowMajor j).val < 1 := (S_.rowMajor j).isLt.trans_le (by decide)
    show (S1.rowMajor (ix1 (0 : Fin 1))).val = (S_.rowMajor j).val
    omega)]
  unfold extractStridedSlice
  refine congrArg X (funext fun a => Fin.ext ?_)
  fin_cases a
  show w + 0 = w
  omega

theorem tail_27 (W : Valuation τ sig (Elt Ideal)) :
    StableHlo.after hostOps1 W (Proc.devRef .tc main_v27) = ratio (W (Proc.devRef .tc main_v20)) 0 3 := by
  unfold hostOps1
  after_results
  funext j
  exact congrArg₂ Ideal.div (scalar_word _ 0 (by norm_num) _ _ j) (scalar_word _ 3 (by norm_num) _ _ j)

theorem tail_30 (W : Valuation τ sig (Elt Ideal)) :
    StableHlo.after hostOps1 W (Proc.devRef .tc main_v30) = ratio (W (Proc.devRef .tc main_v20)) 1 3 := by
  unfold hostOps1
  after_results
  funext j
  exact congrArg₂ Ideal.div (scalar_word _ 1 (by norm_num) _ _ j) (scalar_word _ 3 (by norm_num) _ _ j)

theorem tail_33 (W : Valuation τ sig (Elt Ideal)) :
    StableHlo.after hostOps1 W (Proc.devRef .tc main_v33) = ratio (W (Proc.devRef .tc main_v20)) 2 4 := by
  unfold hostOps1
  after_results
  funext j
  exact congrArg₂ Ideal.div (scalar_word _ 2 (by norm_num) _ _ j) (scalar_word _ 4 (by norm_num) _ _ j)

theorem before_words (h : t0_1.val - 1 < cfg0.N) : outsAt0 m c (t0_1.val - 1) h = outsAt0 m c t0_0.val t0_0.isLt := rfl

/-- Word 0: the box terms of both blocks. -/
theorem word_0 : words m c (ix1 0) = locTask (iblk m c 6 t0_0) (iblk m c 7 t0_0) (iblk m c 4 t0_0) + locTask (iblk m c 6 t0_1) (iblk m c 7 t0_1) (iblk m c 4 t0_1) := by
  unfold words
  rw [outsAt0_B m c t0_1 (by decide), out_B_0, before_words, outsAt0_A m c t0_0 (by decide), out_A_0, Ideal.ofBits_zero_f32,
    zero_add]

/-- Word 1: the player's losses. -/
theorem word_1 : words m c (ix1 1) = confTask (iblk m c 0 t0_0) (iblk m c 1 t0_0) (iblk m c 4 t0_0) (iblk m c 8 t0_0) + confTask (iblk m c 0 t0_1) (iblk m c 1 t0_1) (iblk m c 4 t0_1) (iblk m c 8 t0_1) := by
  unfold words
  rw [outsAt0_B m c t0_1 (by decide), out_B_1, before_words, outsAt0_A m c t0_0 (by decide), out_A_1, Ideal.ofBits_zero_f32,
    zero_add]

/-- Word 2: the ball's losses. -/
theorem word_2 : words m c (ix1 2) = confTask (iblk m c 2 t0_0) (iblk m c 3 t0_0) (iblk m c 5 t0_0) (iblk m c 9 t0_0) + confTask (iblk m c 2 t0_1) (iblk m c 3 t0_1) (iblk m c 5 t0_1) (iblk m c 9 t0_1) := by
  unfold words
  rw [outsAt0_B m c t0_1 (by decide), out_B_2, before_words, outsAt0_A m c t0_0 (by decide), out_A_2, Ideal.ofBits_zero_f32,
    zero_add]

/-- Word 3: the player's counts. -/
theorem word_3 : words m c (ix1 3) = (k0_pay19 (F := Ideal) (k0_pay5 (iblk m c 4 t0_0)) : EReal) + (k0_pay19 (F := Ideal) (k0_pay5 (iblk m c 4 t0_1)) : EReal) := by
  unfold words
  rw [outsAt0_B m c t0_1 (by decide), out_B_3, before_words, outsAt0_A m c t0_0 (by decide), out_A_3, Ideal.ofBits_zero_f32,
    zero_add]

/-- Word 4: the ball's counts. -/
theorem word_4 : words m c (ix1 4) = (k0_pay19 (F := Ideal) (k0_pay5 (iblk m c 5 t0_0)) : EReal) + (k0_pay19 (F := Ideal) (k0_pay5 (iblk m c 5 t0_1)) : EReal) := by
  unfold words
  rw [outsAt0_B m c t0_1 (by decide), out_B_4, before_words, outsAt0_A m c t0_0 (by decide), out_A_4, Ideal.ofBits_zero_f32,
    zero_add]

/-- The kernel's run: its three results. -/
theorem kernel_run :
    θ_run defs (onTc (τ := τ) (main (F := Ideal))) ⟨m, fun _ => 0, ρ⟩ fun r => ∀ c : Dev nD,
      r.2.mem ((c : Thread nD τ).loc main_v27) = ratio (words m c) 0 3
        ∧ r.2.mem ((c : Thread nD τ).loc main_v30) = ratio (words m c) 1 3
        ∧ r.2.mem ((c : Thread nD τ).loc main_v33) = ratio (words m c) 2 4 := by
  refine (θ_run defs _ _).mono (fun r h c => ?_) (run_main m ρ)
  have hw : Pipeline.withArrays spec0 c (V0 m c) (fun w => (dats m 0 c).arrAt w cfg0.N) (Proc.devRef .tc main_v20) = words m c :=
    (Pipeline.withArrays_arr spec0 launch0.win.arr_inj c (V0 m c) (fun w => (dats m 0 c).arrAt w cfg0.N) 10).trans (words_final m c)
  have h27 := (h c).2 main_v27 (by decide)
  have h30 := (h c).2 main_v30 (by decide)
  have h33 := (h c).2 main_v33 (by decide)
  refine ⟨h27.trans ?_, h30.trans ?_, h33.trans ?_⟩
  · exact (tail_27 _).trans (congrArg (ratio · 0 3) hw)
  · exact (tail_30 _).trans (congrArg (ratio · 1 3) hw)
  · exact (tail_33 _).trans (congrArg (ratio · 2 4) hw)

end Cert.Own
-- ==== Proof.Blocks.lean ====
/-
  The blocks a grid point is given, as elements of the arguments: grid point `t` holds rows `16 t … 16 t + 15`, and box
  `p` of a row lies at `(p / 2500, p % 2500)`.
-/
module

public import proofs.«01_k».proof.Proof.Gen.KernelIdeal.Frame
public import proofs.«01_k».proof.Proof.KernelLoc
public import Idealize.ShloMosaic.Lib.Claim
public import Idealize.ShloMosaic.Lib.Tactic
public import Idealize.ShloMosaic.Lib.Pointwise.Reshape

@[expose] public section

set_option maxRecDepth 16384

noncomputable section

namespace Cert.Own

open Idealize.ShloMosaic Idealize.ShloMosaic.TcCoe Cert.KernelIdeal Cert.KernelIdeal.Gen
open scoped BigOperators

/-- The row of the whole batch that row `r` of grid point `t` is. -/
def gr (t : Fin cfg0.N) (r : Fin 16) : Fin 32 := ⟨16 * t.val + r.val, by
  have h := t.isLt
  have : cfg0.N = 2 := N_0
  omega⟩

/-- Where box `p` of row `q` lies in the re-shaped batch. -/
def gpt (q : Fin 32) (p : Fin 20000) : S32x8x2500.Idx :=
  ix3 q (⟨p.val / 2500, by omega⟩ : Fin 8) (⟨p.val % 2500, Nat.mod_lt _ (by norm_num)⟩ : Fin 2500)

/-- Where coordinate `k` of box `p` of row `q` lies in the re-shaped batch of box coordinates. -/
def gpt4 (q : Fin 32) (k : Fin 4) (p : Fin 20000) : S32x4x8x2500.Idx :=
  ix4 q k (⟨p.val / 2500, by omega⟩ : Fin 8) (⟨p.val % 2500, Nat.mod_lt _ (by norm_num)⟩ : Fin 2500)

/-- Re-shaping the boxes of a row into eight lines. -/
theorem folded_at {e : EltTy} (X : S32x20000.Idx → Elt Ideal e) (h : S32x20000.ShapeCasts S32x8x2500) (q : Fin 32) (p : Fin 20000) :
    shapeCast S32x8x2500 X h (gpt q p) = X (ix2 q p) := by
  refine shapeCast_apply _ _ _ _ ?_
  rw [Shape.rowMajor_val_three, Shape.rowMajor_val_two]
  show q.val * 20000 + p.val = (q.val * 8 + p.val / 2500) * 2500 + p.val % 2500
  omega

/-- One class's confidences, dropped to two axes and re-shaped. -/
theorem class_at (X : S32x20000x2.Idx → EReal) (off : Fin 3 → ℕ) (k : Fin 2) (h : S32x20000x2.Slices off S32x20000x1)
    (h0 : off 0 = 0) (h1 : off 1 = 0) (h2 : off 2 = k.val) (h' : S32x20000x1.ShapeCasts S32x20000) (q : Fin 32) (p : Fin 20000) :
    shapeCast S32x20000 (extractStridedSlice S32x20000x1 off X h) h' (ix2 q p) = X (ix3 q p k) := by
  rw [shapeCast_apply _ _ _ (ix3 q p (0 : Fin 1)) (by
    rw [Shape.rowMajor_val_three, Shape.rowMajor_val_two]
    show (q.val * 20000 + p.val) * 1 + 0 = q.val * 20000 + p.val
    omega)]
  unfold extractStridedSlice
  refine congrArg X (funext fun a => Fin.ext ?_)
  fin_cases a
  · show off 0 + q.val = q.val
    omega
  · show off 1 + p.val = p.val
    omega
  · show off 2 + 0 = k.val
    omega

/-- Box coordinates, the coordinate brought in front of the box and the boxes re-shaped. -/
theorem coords_at (X : S32x20000x4.Idx → EReal) (h : S32x20000x4.Transposes [0, 2, 1] S32x4x20000)
    (h' : S32x4x20000.ShapeCasts S32x4x8x2500) (q : Fin 32) (k : Fin 4) (p : Fin 20000) :
    shapeCast S32x4x8x2500 (transpose S32x4x20000 [0, 2, 1] X h) h' (gpt4 q k p) = X (ix3 q p k) := by
  rw [shapeCast_apply _ _ _ (ix3 q k p) (by
    rw [Shape.rowMajor_val_three, Shape.rowMajor_val_four]
    show (q.val * 4 + k.val) * 20000 + p.val = ((q.val * 4 + k.val) * 8 + p.val / 2500) * 2500 + p.val % 2500
    omega)]
  unfold transpose
  refine congrArg X (funext fun a => Fin.ext ?_)
  fin_cases a <;> rfl

variable (m : (ℓ : Loc nD τ sig) → Buf (Elt Ideal) ℓ) (c : Dev nD)

theorem staged_0 (t : Fin cfg0.N) (r : Fin 16) (p : Fin 20000) :
    (iblk m c 0 t : Vec Ideal S16x8x2500 .f32) (pt r p) = V m c main_v2 (gpt (gr t r) p) := by
  have hi : win0_0.index t 0 = t.val ∧ win0_0.index t 1 = 0 ∧ win0_0.index t 2 = 0 := by
    rcases fin_N0 t with rfl | rfl <;> decide
  unfold iblk
  rw [View.read_apply]
  show V m c main_v2 _ = V m c main_v2 _
  refine congrArg (V m c main_v2) (funext fun a => Fin.ext ?_)
  match a with
  | ⟨0, _⟩ => show win0_0.index t 0 * 16 + 1 * r.val = (16 * t.val + r.val); rw [hi.1]; omega
  | ⟨1, _⟩ => show win0_0.index t 1 * 8 + 1 * (p.val / 2500) = (p.val / 2500); rw [hi.2.1]; omega
  | ⟨2, _⟩ => show win0_0.index t 2 * 2500 + 1 * (p.val % 2500) = (p.val % 2500); rw [hi.2.2]; omega

theorem staged_1 (t : Fin cfg0.N) (r : Fin 16) (p : Fin 20000) :
    (iblk m c 1 t : Vec Ideal S16x8x2500 .f32) (pt r p) = V m c main_v5 (gpt (gr t r) p) := by
  have hi : win0_1.index t 0 = t.val ∧ win0_1.index t 1 = 0 ∧ win0_1.index t 2 = 0 := by
    rcases fin_N0 t with rfl | rfl <;> decide
  unfold iblk
  rw [View.read_apply]
  show V m c main_v5 _ = V m c main_v5 _
  refine congrArg (V m c main_v5) (funext fun a => Fin.ext ?_)
  match a with
  | ⟨0, _⟩ => show win0_1.index t 0 * 16 + 1 * r.val = (16 * t.val + r.val); rw [hi.1]; omega
  | ⟨1, _⟩ => show win0_1.index t 1 * 8 + 1 * (p.val / 2500) = (p.val / 2500); rw [hi.2.1]; omega
  | ⟨2, _⟩ => show win0_1.index t 2 * 2500 + 1 * (p.val % 2500) = (p.val % 2500); rw [hi.2.2]; omega

theorem staged_2 (t : Fin cfg0.N) (r : Fin 16) (p : Fin 20000) :
    (iblk m c 2 t : Vec Ideal S16x8x2500 .f32) (pt r p) = V m c main_v8 (gpt (gr t r) p) := by
  have hi : win0_2.index t 0 = t.val ∧ win0_2.index t 1 = 0 ∧ win0_2.index t 2 = 0 := by
    rcases fin_N0 t with rfl | rfl <;> decide
  unfold iblk
  rw [View.read_apply]
  show V m c main_v8 _ = V m c main_v8 _
  refine congrArg (V m c main_v8) (funext fun a => Fin.ext ?_)
  match a with
  | ⟨0, _⟩ => show win0_2.index t 0 * 16 + 1 * r.val = (16 * t.val + r.val); rw [hi.1]; omega
  | ⟨1, _⟩ => show win0_2.index t 1 * 8 + 1 * (p.val / 2500) = (p.val / 2500); rw [hi.2.1]; omega
  | ⟨2, _⟩ => show win0_2.index t 2 * 2500 + 1 * (p.val % 2500) = (p.val % 2500); rw [hi.2.2]; omega

theorem staged_3 (t : Fin cfg0.N) (r : Fin 16) (p : Fin 20000) :
    (iblk m c 3 t : Vec Ideal S16x8x2500 .f32) (pt r p) = V m c main_v11 (gpt (gr t r) p) := by
  have hi : win0_3.index t 0 = t.val ∧ win0_3.index t 1 = 0 ∧ win0_3.index t 2 = 0 := by
    rcases fin_N0 t with rfl | rfl <;> decide
  unfold iblk
  rw [View.read_apply]
  show V m c main_v11 _ = V m c main_v11 _
  refine congrArg (V m c main_v11) (funext fun a => Fin.ext ?_)
  match a with
  | ⟨0, _⟩ => show win0_3.index t 0 * 16 + 1 * r.val = (16 * t.val + r.val); rw [hi.1]; omega
  | ⟨1, _⟩ => show win0_3.index t 1 * 8 + 1 * (p.val / 2500) = (p.val / 2500); rw [hi.2.1]; omega
  | ⟨2, _⟩ => show win0_3.index t 2 * 2500 + 1 * (p.val % 2500) = (p.val % 2500); rw [hi.2.2]; omega

theorem staged_4 (t : Fin cfg0.N) (r : Fin 16) (p : Fin 20000) :
    (iblk m c 4 t : Vec Ideal S16x8x2500 .i32) (pt r p) = V m c main_v12 (gpt (gr t r) p) := by
  have hi : win0_4.index t 0 = t.val ∧ win0_4.index t 1 = 0 ∧ win0_4.index t 2 = 0 := by
    rcases fin_N0 t with rfl | rfl <;> decide
  unfold iblk
  rw [View.read_apply]
  show V m c main_v12 _ = V m c main_v12 _
  refine congrArg (V m c main_v12) (funext fun a => Fin.ext ?_)
  match a with
  | ⟨0, _⟩ => show win0_4.index t 0 * 16 + 1 * r.val = (16 * t.val + r.val); rw [hi.1]; omega
  | ⟨1, _⟩ => show win0_4.index t 1 * 8 + 1 * (p.val / 2500) = (p.val / 2500); rw [hi.2.1]; omega
  | ⟨2, _⟩ => show win0_4.index t 2 * 2500 + 1 * (p.val % 2500) = (p.val % 2500); rw [hi.2.2]; omega

theorem staged_5 (t : Fin cfg0.N) (r : Fin 16) (p : Fin 20000) :
    (iblk m c 5 t : Vec Ideal S16x8x2500 .i32) (pt r p) = V m c main_v13 (gpt (gr t r) p) := by
  have hi : win0_5.index t 0 = t.val ∧ win0_5.index t 1 = 0 ∧ win0_5.index t 2 = 0 := by
    rcases fin_N0 t with rfl | rfl <;> decide
  unfold iblk
  rw [View.read_apply]
  show V m c main_v13 _ = V m c main_v13 _
  refine congrArg (V m c main_v13) (funext fun a => Fin.ext ?_)
  match a with
  | ⟨0, _⟩ => show win0_5.index t 0 * 16 + 1 * r.val = (16 * t.val + r.val); rw [hi.1]; omega
  | ⟨1, _⟩ => show win0_5.index t 1 * 8 + 1 * (p.val / 2500) = (p.val / 2500); rw [hi.2.1]; omega
  | ⟨2, _⟩ => show win0_5.index t 2 * 2500 + 1 * (p.val % 2500) = (p.val % 2500); rw [hi.2.2]; omega

theorem staged_6 (t : Fin cfg0.N) (r : Fin 16) (k : Fin 4) (p : Fin 20000) :
    (iblk m c 6 t : Vec Ideal S16x4x8x2500 .f32) (pt4 r k p) = V m c main_v17 (gpt4 (gr t r) k p) := by
  have hi : win0_6.index t 0 = t.val ∧ win0_6.index t 1 = 0 ∧ win0_6.index t 2 = 0 ∧ win0_6.index t 3 = 0 := by
    rcases fin_N0 t with rfl | rfl <;> decide
  unfold iblk
  rw [View.read_apply]
  show V m c main_v17 _ = V m c main_v17 _
  refine congrArg (V m c main_v17) (funext fun a => Fin.ext ?_)
  match a with
  | ⟨0, _⟩ => show win0_6.index t 0 * 16 + 1 * r.val = (16 * t.val + r.val); rw [hi.1]; omega
  | ⟨1, _⟩ => show win0_6.index t 1 * 4 + 1 * k.val = k.val; rw [hi.2.1]; omega
  | ⟨2, _⟩ => show win0_6.index t 2 * 8 + 1 * (p.val / 2500) = (p.val / 2500); rw [hi.2.2.1]; omega
  | ⟨3, _⟩ => show win0_6.index t 3 * 2500 + 1 * (p.val % 2500) = (p.val % 2500); rw [hi.2.2.2]; omega

theorem staged_7 (t : Fin cfg0.N) (r : Fin 16) (k : Fin 4) (p : Fin 20000) :
    (iblk m c 7 t : Vec Ideal S16x4x8x2500 .f32) (pt4 r k p) = V m c main_v19 (gpt4 (gr t r) k p) := by
  have hi : win0_7.index t 0 = t.val ∧ win0_7.index t 1 = 0 ∧ win0_7.index t 2 = 0 ∧ win0_7.index t 3 = 0 := by
    rcases fin_N0 t with rfl | rfl <;> decide
  unfold iblk
  rw [View.read_apply]
  show V m c main_v19 _ = V m c main_v19 _
  refine congrArg (V m c main_v19) (funext fun a => Fin.ext ?_)
  match a with
  | ⟨0, _⟩ => show win0_7.index t 0 * 16 + 1 * r.val = (16 * t.val + r.val); rw [hi.1]; omega
  | ⟨1, _⟩ => show win0_7.index t 1 * 4 + 1 * k.val = k.val; rw [hi.2.1]; omega
  | ⟨2, _⟩ => show win0_7.index t 2 * 8 + 1 * (p.val / 2500) = (p.val / 2500); rw [hi.2.2.1]; omega
  | ⟨3, _⟩ => show win0_7.index t 3 * 2500 + 1 * (p.val % 2500) = (p.val % 2500); rw [hi.2.2.2]; omega

theorem staged_8 (t : Fin cfg0.N) (r : Fin 16) (p : Fin 20000) :
    (iblk m c 8 t : Vec Ideal S16x8x2500 .i32) (pt r p) = V m c main_v14 (gpt (gr t r) p) := by
  have hi : win0_8.index t 0 = t.val ∧ win0_8.index t 1 = 0 ∧ win0_8.index t 2 = 0 := by
    rcases fin_N0 t with rfl | rfl <;> decide
  unfold iblk
  rw [View.read_apply]
  show V m c main_v14 _ = V m c main_v14 _
  refine congrArg (V m c main_v14) (funext fun a => Fin.ext ?_)
  match a with
  | ⟨0, _⟩ => show win0_8.index t 0 * 16 + 1 * r.val = (16 * t.val + r.val); rw [hi.1]; omega
  | ⟨1, _⟩ => show win0_8.index t 1 * 8 + 1 * (p.val / 2500) = (p.val / 2500); rw [hi.2.1]; omega
  | ⟨2, _⟩ => show win0_8.index t 2 * 2500 + 1 * (p.val % 2500) = (p.val % 2500); rw [hi.2.2]; omega

theorem staged_9 (t : Fin cfg0.N) (r : Fin 16) (p : Fin 20000) :
    (iblk m c 9 t : Vec Ideal S16x8x2500 .i32) (pt r p) = V m c main_v15 (gpt (gr t r) p) := by
  have hi : win0_9.index t 0 = t.val ∧ win0_9.index t 1 = 0 ∧ win0_9.index t 2 = 0 := by
    rcases fin_N0 t with rfl | rfl <;> decide
  unfold iblk
  rw [View.read_apply]
  show V m c main_v15 _ = V m c main_v15 _
  refine congrArg (V m c main_v15) (funext fun a => Fin.ext ?_)
  match a with
  | ⟨0, _⟩ => show win0_9.index t 0 * 16 + 1 * r.val = (16 * t.val + r.val); rw [hi.1]; omega
  | ⟨1, _⟩ => show win0_9.index t 1 * 8 + 1 * (p.val / 2500) = (p.val / 2500); rw [hi.2.1]; omega
  | ⟨2, _⟩ => show win0_9.index t 2 * 2500 + 1 * (p.val % 2500) = (p.val % 2500); rw [hi.2.2]; omega

theorem entry_0 : V m c main_v2 = shapeCast S32x8x2500 (shapeCast S32x20000
    (extractStridedSlice S32x20000x1 ![0, 0, 0] (m (c.tc.loc main_arg1)) slices_S32x20000x2_S32x20000x1_0_0_0) shapeCasts_S32x20000x1_S32x20000)
    shapeCasts_S32x20000_S32x8x2500 := by
  entry_read
  rfl

theorem block_0 (t : Fin cfg0.N) (r : Fin 16) (p : Fin 20000) :
    (iblk m c 0 t : Vec Ideal S16x8x2500 .f32) (pt r p) = m (c.tc.loc main_arg1) (ix3 (gr t r) p 0) := by
  rw [staged_0, entry_0]
  exact (folded_at (e := .f32) _ _ _ _).trans (class_at _ _ 0 _ rfl rfl rfl _ _ _)

theorem entry_1 : V m c main_v5 = shapeCast S32x8x2500 (shapeCast S32x20000
    (extractStridedSlice S32x20000x1 ![0, 0, 1] (m (c.tc.loc main_arg1)) slices_S32x20000x2_S32x20000x1_0_0_1) shapeCasts_S32x20000x1_S32x20000)
    shapeCasts_S32x20000_S32x8x2500 := by
  entry_read
  rfl

theorem block_1 (t : Fin cfg0.N) (r : Fin 16) (p : Fin 20000) :
    (iblk m c 1 t : Vec Ideal S16x8x2500 .f32) (pt r p) = m (c.tc.loc main_arg1) (ix3 (gr t r) p 1) := by
  rw [staged_1, entry_1]
  exact (folded_at (e := .f32) _ _ _ _).trans (class_at _ _ 1 _ rfl rfl rfl _ _ _)

theorem entry_2 : V m c main_v8 = shapeCast S32x8x2500 (shapeCast S32x20000
    (extractStridedSlice S32x20000x1 ![0, 0, 0] (m (c.tc.loc main_arg2)) slices_S32x20000x2_S32x20000x1_0_0_0) shapeCasts_S32x20000x1_S32x20000)
    shapeCasts_S32x20000_S32x8x2500 := by
  entry_read
  rfl

theorem block_2 (t : Fin cfg0.N) (r : Fin 16) (p : Fin 20000) :
    (iblk m c 2 t : Vec Ideal S16x8x2500 .f32) (pt r p) = m (c.tc.loc main_arg2) (ix3 (gr t r) p 0) := by
  rw [staged_2, entry_2]
  exact (folded_at (e := .f32) _ _ _ _).trans (class_at _ _ 0 _ rfl rfl rfl _ _ _)

theorem entry_3 : V m c main_v11 = shapeCast S32x8x2500 (shapeCast S32x20000
    (extractStridedSlice S32x20000x1 ![0, 0, 1] (m (c.tc.loc main_arg2)) slices_S32x20000x2_S32x20000x1_0_0_1) shapeCasts_S32x20000x1_S32x20000)
    shapeCasts_S32x20000_S32x8x2500 := by
  entry_read
  rfl

theorem block_3 (t : Fin cfg0.N) (r : Fin 16) (p : Fin 20000) :
    (iblk m c 3 t : Vec Ideal S16x8x2500 .f32) (pt r p) = m (c.tc.loc main_arg2) (ix3 (gr t r) p 1) := by
  rw [staged_3, entry_3]
  exact (folded_at (e := .f32) _ _ _ _).trans (class_at _ _ 1 _ rfl rfl rfl _ _ _)

theorem entry_4 : V m c main_v12 = shapeCast S32x8x2500 (m (c.tc.loc main_arg4)) shapeCasts_S32x20000_S32x8x2500 := by
  entry_read
  rfl

theorem block_4 (t : Fin cfg0.N) (r : Fin 16) (p : Fin 20000) :
    (iblk m c 4 t : Vec Ideal S16x8x2500 .i32) (pt r p) = m (c.tc.loc main_arg4) (ix2 (gr t r) p) := by
  rw [staged_4, entry_4]
  exact folded_at (e := .i32) _ _ _ _

theorem entry_5 : V m c main_v13 = shapeCast S32x8x2500 (m (c.tc.loc main_arg5)) shapeCasts_S32x20000_S32x8x2500 := by
  entry_read
  rfl

theorem block_5 (t : Fin cfg0.N) (r : Fin 16) (p : Fin 20000) :
    (iblk m c 5 t : Vec Ideal S16x8x2500 .i32) (pt r p) = m (c.tc.loc main_arg5) (ix2 (gr t r) p) := by
  rw [staged_5, entry_5]
  exact folded_at (e := .i32) _ _ _ _

theorem entry_8 : V m c main_v14 = shapeCast S32x8x2500 (m (c.tc.loc main_arg6)) shapeCasts_S32x20000_S32x8x2500 := by
  entry_read
  rfl

theorem block_8 (t : Fin cfg0.N) (r : Fin 16) (p : Fin 20000) :
    (iblk m c 8 t : Vec Ideal S16x8x2500 .i32) (pt r p) = m (c.tc.loc main_arg6) (ix2 (gr t r) p) := by
  rw [staged_8, entry_8]
  exact folded_at (e := .i32) _ _ _ _

theorem entry_9 : V m c main_v15 = shapeCast S32x8x2500 (m (c.tc.loc main_arg7)) shapeCasts_S32x20000_S32x8x2500 := by
  entry_read
  rfl

theorem block_9 (t : Fin cfg0.N) (r : Fin 16) (p : Fin 20000) :
    (iblk m c 9 t : Vec Ideal S16x8x2500 .i32) (pt r p) = m (c.tc.loc main_arg7) (ix2 (gr t r) p) := by
  rw [staged_9, entry_9]
  exact folded_at (e := .i32) _ _ _ _

theorem entry_6 : V m c main_v17 = shapeCast S32x4x8x2500
    (transpose S32x4x20000 [0, 2, 1] (m (c.tc.loc main_arg0)) transposes_S32x20000x4_S32x4x20000_0_2_1) shapeCasts_S32x4x20000_S32x4x8x2500 := by
  entry_read
  rfl

theorem block_6 (t : Fin cfg0.N) (r : Fin 16) (k : Fin 4) (p : Fin 20000) :
    (iblk m c 6 t : Vec Ideal S16x4x8x2500 .f32) (pt4 r k p) = m (c.tc.loc main_arg0) (ix3 (gr t r) p k) := by
  rw [staged_6, entry_6]
  exact coords_at _ _ _ _ _ _

theorem entry_7 : V m c main_v19 = shapeCast S32x4x8x2500
    (transpose S32x4x20000 [0, 2, 1] (m (c.tc.loc main_arg3)) transposes_S32x20000x4_S32x4x20000_0_2_1) shapeCasts_S32x4x20000_S32x4x8x2500 := by
  entry_read
  rfl

theorem block_7 (t : Fin cfg0.N) (r : Fin 16) (k : Fin 4) (p : Fin 20000) :
    (iblk m c 7 t : Vec Ideal S16x4x8x2500 .f32) (pt4 r k p) = m (c.tc.loc main_arg3) (ix3 (gr t r) p k) := by
  rw [staged_7, entry_7]
  exact coords_at _ _ _ _ _ _

end Cert.Own
-- ==== Proof.Whole.lean ====
/-
  The kernel's five words over the whole batch: sums over all thirty-two rows.
-/
module

public import proofs.«01_k».proof.Proof.KernelRun
public import proofs.«01_k».proof.Proof.Blocks

@[expose] public section

set_option maxRecDepth 16384

noncomputable section

namespace Cert.Own

open Idealize.ShloMosaic Idealize.ShloMosaic.TcCoe Cert.KernelIdeal Cert.KernelIdeal.Gen
open scoped BigOperators

/-- The focal terms of one row: every positive box, and the selected negatives. `d` is the second confidence minus the
    first. -/
def confRow (d : Fin 20000 → ℝ) (lab : Fin 20000 → BitVec 32) (S : Finset (Fin 20000)) : ℝ :=
  (∑ p, if 0 < (lab p).toInt then focal (sp (-(d p))) else 0) + ∑ p ∈ S, focal (sp (d p))

/-- The smooth-L1 terms of one row. -/
def locRow (x y : Fin 20000 → Fin 4 → EReal) (lab : Fin 20000 → BitVec 32) : EReal :=
  ∑ p, if 0 < (lab p).toInt then ∑ k : Fin 4, sl1 (x p k) (y p k) else 0

/-- A sum over the rows is a sum over the rows of either grid point. -/
theorem sum_rows {M : Type} [AddCommMonoid M] (f : Fin 32 → M) :
    ∑ q, f q = ∑ r : Fin 16, f (gr t0_0 r) + ∑ r : Fin 16, f (gr t0_1 r) := by
  rw [Fin.sum_univ_add (a := 16) (b := 16) f]
  refine congrArg₂ (· + ·) (Finset.sum_congr rfl fun r _ => congrArg f (Fin.ext ?_))
    (Finset.sum_congr rfl fun r _ => congrArg f (Fin.ext ?_))
  · show r.val = 16 * 0 + r.val
    omega
  · show 16 + r.val = 16 * 1 + r.val
    omega

/-- A block's loss, its words given row by row. -/
theorem conf_rows (v0 v2 : Vec Ideal S16x8x2500 .f32) (v4 v6 : Vec Ideal S16x8x2500 .i32) (a b : Fin 16 → Fin 20000 → ℝ)
    (lab bits : Fin 16 → Fin 20000 → BitVec 32) (ha : ∀ r p, v0 (pt r p) = (a r p : EReal)) (hb : ∀ r p, v2 (pt r p) = (b r p : EReal))
    (h4 : ∀ r p, v4 (pt r p) = lab r p) (h6 : ∀ r p, v6 (pt r p) = bits r p) (S : Fin 16 → Finset (Fin 20000))
    (hu : ∀ r p, bits r p ≠ 4294967295#32)
    (hw : ∀ r p q, (rawKey (bits r p)).toInt ≤ (rawKey (bits r q)).toInt → b r p - a r p ≤ b r q - a r q)
    (hS : ∀ r, IsTop (Finset.univ.filter fun p => ¬ 0 < BitVec.toInt (lab r p)) (S r) fun p => b r p - a r p)
    (hc : ∀ r, (S r).card = nNeg (lab r)) :
    confTask v0 v2 v4 v6 = ((∑ r : Fin 16, confRow (fun p => b r p - a r p) (lab r) (S r) : ℝ) : EReal) := by
  obtain rfl : lab = fun r p => v4 (pt r p) := funext fun r => funext fun p => (h4 r p).symm
  obtain rfl : bits = fun r p => v6 (pt r p) := funext fun r => funext fun p => (h6 r p).symm
  exact conf_block v0 v2 v4 v6 a b ha hb S hu hw hS hc

/-- A block's count, its labels given row by row. -/
theorem npp_rows (v4 : Vec Ideal S16x8x2500 .i32) (lab : Fin 16 → Fin 20000 → BitVec 32) (h4 : ∀ r p, v4 (pt r p) = lab r p) :
    (k0_pay19 (F := Ideal) (k0_pay5 (F := Ideal) v4) : EReal) = (((∑ r : Fin 16, nPosOne (lab r) : ℕ) : ℝ) : EReal) := by
  obtain rfl : lab = fun r p => v4 (pt r p) := funext fun r => funext fun p => (h4 r p).symm
  exact npp_block v4

/-- A block's smooth-L1 terms, its words given row by row. -/
theorem loc_rows (x y : Vec Ideal S16x4x8x2500 .f32) (v4 : Vec Ideal S16x8x2500 .i32) (lab : Fin 16 → Fin 20000 → BitVec 32)
    (X Y : Fin 16 → Fin 20000 → Fin 4 → EReal) (h4 : ∀ r p, v4 (pt r p) = lab r p)
    (hx : ∀ r k p, x (pt4 r k p) = X r p k) (hy : ∀ r k p, y (pt4 r k p) = Y r p k) :
    locTask x y v4 = ∑ r : Fin 16, locRow (X r) (Y r) (lab r) := by
  unfold locTask locRow
  refine Finset.sum_congr rfl fun r _ => Finset.sum_congr rfl fun p _ => ?_
  rw [h4]
  exact if_congr Iff.rfl (Finset.sum_congr rfl fun k _ => by rw [hx, hy]) rfl

variable (m : (ℓ : Loc nD τ sig) → Buf (Elt Ideal) ℓ) (c : Dev nD)

theorem whole_loc : words m c (ix1 0) = ∑ q : Fin 32, locRow (fun p k => m (c.tc.loc main_arg0) (ix3 q p k))
    (fun p k => m (c.tc.loc main_arg3) (ix3 q p k)) (fun p => m (c.tc.loc main_arg4) (ix2 q p)) := by
  have h : ∀ t, locTask (iblk m c 6 t) (iblk m c 7 t) (iblk m c 4 t) = ∑ r : Fin 16,
      locRow (fun p k => m (c.tc.loc main_arg0) (ix3 (gr t r) p k)) (fun p k => m (c.tc.loc main_arg3) (ix3 (gr t r) p k))
        (fun p => m (c.tc.loc main_arg4) (ix2 (gr t r) p)) := fun t =>
    loc_rows _ _ _ (fun r p => m (c.tc.loc main_arg4) (ix2 (gr t r) p)) (fun r p k => m (c.tc.loc main_arg0) (ix3 (gr t r) p k))
      (fun r p k => m (c.tc.loc main_arg3) (ix3 (gr t r) p k)) (block_4 m c t) (block_6 m c t) (block_7 m c t)
  rw [word_0, h, h]
  exact (sum_rows (fun q => locRow (fun p k => m (c.tc.loc main_arg0) (ix3 q p k))
    (fun p k => m (c.tc.loc main_arg3) (ix3 q p k)) (fun p => m (c.tc.loc main_arg4) (ix2 q p)))).symm

/-- Adding two casts of naturals. -/
theorem add_nat_cast (x y : ℕ) : (((x : ℕ) : ℝ) : EReal) + (((y : ℕ) : ℝ) : EReal) = (((x + y : ℕ) : ℝ) : EReal) := by
  rw [← EReal.coe_add, Nat.cast_add]

theorem whole_npp_3 : words m c (ix1 3)
    = (((∑ q : Fin 32, nPosOne (fun p => m (c.tc.loc main_arg4) (ix2 q p)) : ℕ) : ℝ) : EReal) := by
  have h : ∀ t, (k0_pay19 (F := Ideal) (k0_pay5 (F := Ideal) (iblk m c 4 t)) : EReal)
      = (((∑ r : Fin 16, nPosOne (fun p => m (c.tc.loc main_arg4) (ix2 (gr t r) p)) : ℕ) : ℝ) : EReal) := fun t =>
    npp_rows _ (fun r p => m (c.tc.loc main_arg4) (ix2 (gr t r) p)) (block_4 m c t)
  rw [word_3, h, h]
  refine (add_nat_cast _ _).trans ?_
  exact congrArg (fun n : ℕ => ((n : ℝ) : EReal)) (sum_rows (fun q => nPosOne (fun p => m (c.tc.loc main_arg4) (ix2 q p)))).symm

theorem whole_npp_4 : words m c (ix1 4)
    = (((∑ q : Fin 32, nPosOne (fun p => m (c.tc.loc main_arg5) (ix2 q p)) : ℕ) : ℝ) : EReal) := by
  have h : ∀ t, (k0_pay19 (F := Ideal) (k0_pay5 (F := Ideal) (iblk m c 5 t)) : EReal)
      = (((∑ r : Fin 16, nPosOne (fun p => m (c.tc.loc main_arg5) (ix2 (gr t r) p)) : ℕ) : ℝ) : EReal) := fun t =>
    npp_rows _ (fun r p => m (c.tc.loc main_arg5) (ix2 (gr t r) p)) (block_5 m c t)
  rw [word_4, h, h]
  refine (add_nat_cast _ _).trans ?_
  exact congrArg (fun n : ℕ => ((n : ℝ) : EReal)) (sum_rows (fun q => nPosOne (fun p => m (c.tc.loc main_arg5) (ix2 q p)))).symm

theorem whole_conf_1 (a b : Fin 32 → Fin 20000 → ℝ) (ha : ∀ q p, m (c.tc.loc main_arg1) (ix3 q p 0) = (a q p : EReal))
    (hb : ∀ q p, m (c.tc.loc main_arg1) (ix3 q p 1) = (b q p : EReal)) (S : Fin 32 → Finset (Fin 20000))
    (hu : ∀ q p, m (c.tc.loc main_arg6) (ix2 q p) ≠ 4294967295#32)
    (hw : ∀ q p p', (rawKey (m (c.tc.loc main_arg6) (ix2 q p))).toInt ≤ (rawKey (m (c.tc.loc main_arg6) (ix2 q p'))).toInt →
      b q p - a q p ≤ b q p' - a q p')
    (hS : ∀ q, IsTop (Finset.univ.filter fun p => ¬ 0 < BitVec.toInt (m (c.tc.loc main_arg4) (ix2 q p))) (S q) fun p => b q p - a q p)
    (hc : ∀ q, (S q).card = nNeg (fun p => m (c.tc.loc main_arg4) (ix2 q p))) :
    words m c (ix1 1) = ((∑ q : Fin 32, confRow (fun p => b q p - a q p) (fun p => m (c.tc.loc main_arg4) (ix2 q p)) (S q) : ℝ) : EReal) := by
  have h : ∀ t, confTask (iblk m c 0 t) (iblk m c 1 t) (iblk m c 4 t) (iblk m c 8 t) = ((∑ r : Fin 16,
      confRow (fun p => b (gr t r) p - a (gr t r) p) (fun p => m (c.tc.loc main_arg4) (ix2 (gr t r) p)) (S (gr t r)) : ℝ) : EReal) := fun t =>
    conf_rows _ _ _ _ (fun r => a (gr t r)) (fun r => b (gr t r)) (fun r p => m (c.tc.loc main_arg4) (ix2 (gr t r) p))
      (fun r p => m (c.tc.loc main_arg6) (ix2 (gr t r) p)) (fun r p => (block_0 m c t r p).trans (ha _ _))
      (fun r p => (block_1 m c t r p).trans (hb _ _)) (block_4 m c t) (block_8 m c t) (fun r => S (gr t r))
      (fun r => hu _) (fun r => hw _) (fun r => hS _) (fun r => hc _)
  rw [word_1, h, h]
  refine (EReal.coe_add _ _).symm.trans ?_
  exact congrArg (fun x : ℝ => (x : EReal)) (sum_rows (fun q => confRow (fun p => b q p - a q p) (fun p => m (c.tc.loc main_arg4) (ix2 q p)) (S q))).symm

theorem whole_conf_2 (a b : Fin 32 → Fin 20000 → ℝ) (ha : ∀ q p, m (c.tc.loc main_arg2) (ix3 q p 0) = (a q p : EReal))
    (hb : ∀ q p, m (c.tc.loc main_arg2) (ix3 q p 1) = (b q p : EReal)) (S : Fin 32 → Finset (Fin 20000))
    (hu : ∀ q p, m (c.tc.loc main_arg7) (ix2 q p) ≠ 4294967295#32)
    (hw : ∀ q p p', (rawKey (m (c.tc.loc main_arg7) (ix2 q p))).toInt ≤ (rawKey (m (c.tc.loc main_arg7) (ix2 q p'))).toInt →
      b q p - a q p ≤ b q p' - a q p')
    (hS : ∀ q, IsTop (Finset.univ.filter fun p => ¬ 0 < BitVec.toInt (m (c.tc.loc main_arg5) (ix2 q p))) (S q) fun p => b q p - a q p)
    (hc : ∀ q, (S q).card = nNeg (fun p => m (c.tc.loc main_arg5) (ix2 q p))) :
    words m c (ix1 2) = ((∑ q : Fin 32, confRow (fun p => b q p - a q p) (fun p => m (c.tc.loc main_arg5) (ix2 q p)) (S q) : ℝ) : EReal) := by
  have h : ∀ t, confTask (iblk m c 2 t) (iblk m c 3 t) (iblk m c 5 t) (iblk m c 9 t) = ((∑ r : Fin 16,
      confRow (fun p => b (gr t r) p - a (gr t r) p) (fun p => m (c.tc.loc main_arg5) (ix2 (gr t r) p)) (S (gr t r)) : ℝ) : EReal) := fun t =>
    conf_rows _ _ _ _ (fun r => a (gr t r)) (fun r => b (gr t r)) (fun r p => m (c.tc.loc main_arg5) (ix2 (gr t r) p))
      (fun r p => m (c.tc.loc main_arg7) (ix2 (gr t r) p)) (fun r p => (block_2 m c t r p).trans (ha _ _))
      (fun r p => (block_3 m c t r p).trans (hb _ _)) (block_5 m c t) (block_9 m c t) (fun r => S (gr t r))
      (fun r => hu _) (fun r => hw _) (fun r => hS _) (fun r => hc _)
  rw [word_2, h, h]
  refine (EReal.coe_add _ _).symm.trans ?_
  exact congrArg (fun x : ℝ => (x : EReal)) (sum_rows (fun q => confRow (fun p => b q p - a q p) (fun p => m (c.tc.loc main_arg5) (ix2 q p)) (S q))).symm

end Cert.Own
-- ==== Proof.RowSort.lean ====
/-
  Ranking a row by sorting it twice. The first sort lists the boxes from the smallest key to the largest; sorting that
  list of box numbers gives each box its place in it. With the positives' key above all others, the negatives come first,
  so the negatives of rank below K are the K of them with the smallest keys.
-/
module

public import proofs.«01_k».proof.Proof.TopSum
public import proofs.«01_k».proof.Proof.Focal
public import Idealize.ShloMosaic.Lib.SortFacts

@[expose] public section

noncomputable section

namespace Cert.Own

open Idealize.ShloMosaic
open scoped BigOperators

/-- The place of each box in the sorted list, as the second sort finds it. -/
def place {n : ℕ} (key : Fin n → EReal) : Fin n → Fin n :=
  sortedFrom fun k k' => decide (sortedFrom (fun a b => decide (key a < key b)) k < sortedFrom (fun a b => decide (key a < key b)) k')

theorem place_injective {n : ℕ} (key : Fin n → EReal) : Function.Injective (place key) := sortedFrom_injective _

/-- A strictly increasing map of a finite range into itself is the identity. -/
theorem strictMono_id {n : ℕ} (f : Fin n → Fin n) (hf : StrictMono f) (i : Fin n) : f i = i := by
  have h : f = id := by
    have := Subsingleton.elim (hf.orderIsoOfSurjective f (Finite.injective_iff_surjective.mp hf.injective)) (OrderIso.refl _)
    funext j
    exact congrArg (fun e : Fin n ≃o Fin n => e j) this
  rw [h]
  rfl

/-- The first sort at a box's place gives the box back. -/
theorem sorted_place {n : ℕ} (key : Fin n → EReal) (p : Fin n) :
    sortedFrom (fun a b => decide (key a < key b)) (place key p) = p := by
  set σ := sortedFrom (fun a b => decide (key a < key b)) with hσ
  have hmono : StrictMono fun p => σ (place key p) := by
    intro i j hij
    have h := sortedFrom_noInversion (fun k k' => decide (σ k < σ k')) (fun k k' => decide (σ k < σ k'))
      (fun a b hab => by simp only [decide_eq_true_eq, decide_eq_false_iff_not] at *; omega) (fun a b hab => hab)
      (fun a b c hab hbc => by simp only [decide_eq_false_iff_not] at *; omega) i j hij
    have h1 : ¬ σ (place key j) < σ (place key i) := of_decide_eq_false h
    refine lt_of_le_of_ne (not_lt.mp h1) fun e => ?_
    exact hij.ne (place_injective key (sortedFrom_injective _ e))
  exact strictMono_id _ hmono p

/-- Keys do not descend along places. -/
theorem key_le_of_place_lt {n : ℕ} (key : Fin n → EReal) (p p' : Fin n) (h : place key p < place key p') : key p ≤ key p' := by
  have h1 := sortedFrom_noInversion (fun a b => decide (key a < key b)) (fun a b => decide (key a < key b))
    (fun a b hab => by
      simp only [decide_eq_true_eq, decide_eq_false_iff_not] at *
      exact not_lt.mpr hab.le)
    (fun a b hab => hab)
    (fun a b c hab hbc => by
      simp only [decide_eq_false_iff_not, not_lt] at *
      exact hbc.trans hab) _ _ h
  rw [sorted_place, sorted_place] at h1
  exact not_lt.mp (of_decide_eq_false h1)

variable {n : ℕ} (key : Fin n → EReal) (pos : Fin n → Prop) [DecidablePred pos] (d : Fin n → ℝ)

/-- The negatives of rank below `K`. -/
def firstNegatives (K : ℕ) : Finset (Fin n) := Finset.univ.filter fun p => ¬ pos p ∧ (place key p).val < K

variable (hpos : ∀ p, pos p → key p = ⊤) (hneg : ∀ p, ¬ pos p → key p = ((-sp (d p) : ℝ) : EReal))

include hpos hneg

/-- Every negative ranks before every positive. -/
theorem neg_before_pos (p p' : Fin n) (hp : ¬ pos p) (hp' : pos p') : place key p < place key p' := by
  by_contra h
  have hne : place key p ≠ place key p' := fun e => hp (by rw [place_injective key e]; exact hp')
  have h1 := key_le_of_place_lt key p' p (lt_of_le_of_ne (not_lt.mp h) (Ne.symm hne))
  rw [hpos p' hp', hneg p hp] at h1
  exact EReal.coe_ne_top _ (top_le_iff.mp h1)

/-- They are a set of largest differences among the negatives. -/
theorem firstNegatives_top (K : ℕ) : IsTop (Finset.univ.filter fun p => ¬ pos p) (firstNegatives key pos K) d := by
  unfold firstNegatives
  refine ⟨fun p hp => ?_, fun i hi j hj hjS => ?_⟩
  · simp only [Finset.mem_filter, Finset.mem_univ, true_and] at hp ⊢
    exact hp.1
  · simp only [Finset.mem_filter, Finset.mem_univ, true_and, not_and, not_lt] at hi hj hjS
    have h := key_le_of_place_lt key i j (Fin.lt_def.mpr (lt_of_lt_of_le hi.2 (hjS hj)))
    rw [hneg i hi.1, hneg j hj] at h
    have h' := EReal.coe_le_coe_iff.mp h
    exact sp_strictMono.le_iff_le.mp (by linarith)

/-- How many there are. -/
theorem firstNegatives_card (K : ℕ) : (firstNegatives key pos K).card = min K (n - (Finset.univ.filter fun p => pos p).card) := by
  have hN : (Finset.univ.filter fun p => ¬ pos p).card = n - (Finset.univ.filter fun p => pos p).card := by
    rw [Finset.filter_not, Finset.card_sdiff_of_subset (Finset.filter_subset _ _), Finset.card_univ, Fintype.card_fin]
  have hbij : Function.Bijective (place key) :=
    ⟨place_injective key, Finite.injective_iff_surjective.mp (place_injective key)⟩
  have hcount : ∀ k, k ≤ n → (Finset.univ.filter fun p => (place key p).val < k).card = k := by
    intro k hk
    have e : (Finset.univ.filter fun p => (place key p).val < k)
        = (Finset.univ.filter fun i : Fin n => i.val < k).preimage (place key) (place_injective key).injOn := by
      ext p
      simp
    have e2 : (Finset.univ.filter fun i : Fin n => i.val < k).card = k := by
      rw [Fin.card_filter_val_lt]
      exact min_eq_right hk
    rw [e, Finset.card_preimage, Finset.filter_true_of_mem, e2]
    intro x _
    exact hbij.2 x
  rw [← hN]
  rcases le_or_gt K (Finset.univ.filter fun p => ¬ pos p).card with hK | hK
  · rw [min_eq_left hK]
    have hKn : K ≤ n := hK.trans (by have := Finset.card_le_univ (Finset.univ.filter fun p => ¬ pos p); rwa [Fintype.card_fin] at this)
    refine Eq.trans ?_ (hcount K hKn)
    unfold firstNegatives
    refine congrArg Finset.card (Finset.filter_congr fun p _ => ⟨fun h => h.2, fun h => ⟨fun hp => ?_, h⟩⟩)
    have hsub : (Finset.univ.filter fun p => ¬ pos p) ⊆ Finset.univ.filter fun x => (place key x).val < (place key p).val := by
      intro x hx
      simp only [Finset.mem_filter, Finset.mem_univ, true_and] at hx ⊢
      exact neg_before_pos key pos d hpos hneg x p hx hp
    have := Finset.card_le_card hsub
    rw [hcount _ (place key p).isLt.le] at this
    omega
  · rw [min_eq_right hK.le]
    unfold firstNegatives
    refine congrArg Finset.card (Finset.filter_congr fun p _ => ⟨fun h => h.1, fun hp => ⟨hp, ?_⟩⟩)
    have hsub : (Finset.univ.filter fun x => (place key x).val < (place key p).val + 1) ⊆ Finset.univ.filter fun x => ¬ pos x := by
      intro x hx
      simp only [Finset.mem_filter, Finset.mem_univ, true_and] at hx ⊢
      intro hx'
      have := neg_before_pos key pos d hpos hneg p x hp hx'
      have := Fin.lt_def.mp this
      omega
    have := Finset.card_le_card hsub
    rw [hcount _ (place key p).isLt] at this
    omega

end Cert.Own
-- ==== Proof.RefTask.lean ====
/-
  One classification task of the reference, named piece by piece over any score array and any label array: the two
  tasks of the program are this one, at its own arguments.
-/
module

public import proofs.«01_k».proof.Proof.Gen.ReferenceIdeal.Run
public import proofs.«01_k».proof.Proof.RowSort
public import proofs.«01_k».proof.Proof.Words
public import Idealize.ShloMosaic.Lib.IdealHost

@[expose] public section

noncomputable section

namespace Cert.Own

open Idealize.ShloMosaic Cert.ReferenceIdeal Cert.ReferenceIdeal.Gen Cert.ReferenceIdeal.Value

/-- The scores less their row maximum. -/
def refCentred (X : FVec Ideal S32x20000x2 .f32) : FVec Ideal S32x20000x2 .f32 :=
  subf X (broadcastInDim S32x20000x2 ![0, 1, 2] bcast_S32x20000x1_S32x20000x2_0_1_2
    (broadcastInDim S32x20000x1 ![0, 1] bcast_S32x20000_S32x20000x1_0_1
      (maximumf (broadcastInDim S32x20000 ![] bcast_S_S32x20000 (constant S_ .f32 0xFF800000#32))
        (Host.reduce FloatOps.maximumf X (constant S_ .f32 0xFF800000#32) reducesTo_S32x20000x2_S32x20000_d2 h_S_))))

/-- The logarithms of the two class probabilities. -/
def refLogp (X : FVec Ideal S32x20000x2 .f32) : FVec Ideal S32x20000x2 .f32 :=
  subf (refCentred X) (broadcastInDim S32x20000x2 ![0, 1, 2] bcast_S32x20000x1_S32x20000x2_0_1_2
    (Host.log (broadcastInDim S32x20000x1 ![0, 1] bcast_S32x20000_S32x20000x1_0_1
      (Host.reduceAdd (Host.exp (refCentred X)) (constant S_ .f32 0x00000000#32) reducesTo_S32x20000x2_S32x20000_d2 h_S_))))

/-- Which boxes are positives. -/
def refPos (L : IVec S32x20000 32) : IVec S32x20000 1 :=
  cmpi .sgt L (broadcastInDim S32x20000 ![] bcast_S_S32x20000 (constantI S_ 32 0#32))

/-- Each row's number of positives. -/
def refCount (L : IVec S32x20000 32) : IVec S32x1 32 :=
  broadcastInDim S32x1 ![0] bcast_S32_S32x1_0
    (Host.reduce IntOp.addi (extui 32 (refPos L) natLt_1_32) (constantI S_ 32 0#32) reducesTo_S32x20000_S32_d1 h_S_)

/-- The same, one where there is none. -/
def refCountOne (L : IVec S32x20000 32) : IVec S32x1 32 :=
  select (cmpi .eq (refCount L) (broadcastInDim S32x1 ![] bcast_S_S32x1 (constantI S_ 32 0#32)))
    (broadcastInDim S32x1 ![] bcast_S_S32x1 (id (constantI S_ 32 1#32))) (refCount L)

/-- What the boxes are sorted by: the logarithm of the first class's probability at a negative, infinity at a positive. -/
def refKey (X : FVec Ideal S32x20000x2 .f32) (L : IVec S32x20000 32) : FVec Ideal S32x20000 .f32 :=
  Host.negf (select (refPos L) (broadcastInDim S32x20000 ![] bcast_S_S32x20000 (id (constant S_ .f32 0xFF800000#32)))
    (Host.negf (shapeCast _ (extractStridedSlice S32x20000x1 ![0, 0, 0] (refLogp X) slices_S32x20000x2_S32x20000x1_0_0_0)
      shapeCasts_S32x20000x1_S32x20000)))

/-- The boxes' numbers from the smallest key to the largest. -/
def refOrder (X : FVec Ideal S32x20000x2 .f32) (L : IVec S32x20000 32) : IVec S32x20000 32 :=
  (Host.sort2 S32x20000 1 (comparator_f32_i32_d1 (F := Ideal)) (refKey X L) (iotaInDim S32x20000 32 1)).2

/-- Each box's place in that order. -/
def refRank (X : FVec Ideal S32x20000x2 .f32) (L : IVec S32x20000 32) : IVec S32x20000 32 :=
  (Host.sort2 S32x20000 1 comparator_i32_i32_d1 (refOrder X L) (iotaInDim S32x20000 32 1)).2

/-- The boxes that count: the positives, and the negatives placed below three times the number of positives. -/
def refMask (X : FVec Ideal S32x20000x2 .f32) (L : IVec S32x20000 32) : IVec S32x20000 1 :=
  ori (refPos L) (cmpi .slt (refRank X L) (broadcastInDim S32x20000 ![0, 1] bcast_S32x1_S32x20000_0_1
    (muli (refCountOne L) (broadcastInDim S32x1 ![] bcast_S_S32x1 (constantI S_ 32 3#32)))))

/-- The labels as a column. -/
def refColumn (L : IVec S32x20000 32) : IVec S32x20000x1 32 :=
  broadcastInDim S32x20000x1 ![0, 1] bcast_S32x20000_S32x20000x1_0_1 L

/-- The labels as start indices, two added to a negative one. -/
def refStart (L : IVec S32x20000 32) : IVec S32x20000x1x1 32 :=
  shapeCast _ (select (cmpi .slt (refColumn L) (broadcastInDim S32x20000x1 ![] bcast_S_S32x20000x1 (constantI S_ 32 0#32)))
    (addi (refColumn L) (broadcastInDim S32x20000x1 ![] bcast_S_S32x20000x1 (constantI S_ 32 2#32))) (refColumn L))
    shapeCasts_S32x20000x1_S32x20000x1x1

/-- Which start indices name a class. -/
def refInside (L : IVec S32x20000 32) : IVec S32x20000x1 1 :=
  Host.reduce IntOp.andi
    (andi (cmpi .sge (refStart L) (broadcastInDim S32x20000x1x1 ![] bcast_S_S32x20000x1x1 (constantI S_ 32 0#32)))
      (cmpi .sle (refStart L) (broadcastInDim S32x20000x1x1 ![0, 1, 2, 3] bcast_S1x1x1x1_S32x20000x1x1_0_1_2_3
        (broadcastInDim S1x1x1x1 ![3] bcast_S1_S1x1x1x1_3 (constantI S1 32 1#32)))))
    (constantI S_ 1 1#1) reducesTo_S32x20000x1x1_S32x20000x1_d3 h_S_

/-- The logarithm of the probability of each box's own class. -/
def refPicked (X : FVec Ideal S32x20000x2 .f32) (L : IVec S32x20000 32) : FVec Ideal S32x20000 .f32 :=
  shapeCast _ (select (refInside L)
    (Host.gather gather_S32x20000x2_S32x20000x1x1_S32x20000x1_n_2_01_01_2_3_111 (refLogp X) (refStart L))
    (broadcastInDim S32x20000x1 ![] bcast_S_S32x20000x1 (constant S_ .f32 0x7FC00000#32))) shapeCasts_S32x20000x1_S32x20000

/-- The focal terms of the boxes that count, and zeros. -/
def refTerms (X : FVec Ideal S32x20000x2 .f32) (L : IVec S32x20000 32) : FVec Ideal S32x20000 .f32 :=
  mulf (mulf (mulf (broadcastInDim S32x20000 ![] bcast_S_S32x20000 (constant S_ .f32 0xBE800000#32))
    (Host.powf (subf (broadcastInDim S32x20000 ![] bcast_S_S32x20000 (constant S_ .f32 0x3F800000#32)) (Host.exp (refPicked X L)))
      (broadcastInDim S32x20000 ![] bcast_S_S32x20000 (constant S_ .f32 0x40000000#32)))) (refPicked X L))
    (uitofp .f32 (refMask X L))

/-- Their sum. -/
def refConf (X : FVec Ideal S32x20000x2 .f32) (L : IVec S32x20000 32) : FVec Ideal S_ .f32 :=
  Host.reduceAdd (refTerms X L) (constant S_ .f32 0x00000000#32) reducesTo_S32x20000_S_d0_1 h_S_

/-- The number of positives of the whole batch, one counted in a row without. -/
def refTotal (L : IVec S32x20000 32) : FVec Ideal S_ .f32 :=
  sitofp .f32 (Host.reduce IntOp.addi (refCountOne L) (constantI S_ 32 0#32) reducesTo_S32x1_S_d0_1 h_S_)

/-- The differences of the locations. -/
def refDiff (A B : FVec Ideal S32x20000x4 .f32) : FVec Ideal S32x20000x4 .f32 := subf A B

/-- The smooth-L1 terms of the positives, and zeros. -/
def refLocTerms (A B : FVec Ideal S32x20000x4 .f32) (L : IVec S32x20000 32) : FVec Ideal S32x20000x4 .f32 :=
  mulf (select (cmpf .olt (Host.absf (refDiff A B)) (broadcastInDim S32x20000x4 ![] bcast_S_S32x20000x4 (constant S_ .f32 0x3F800000#32)))
      (mulf (mulf (broadcastInDim S32x20000x4 ![] bcast_S_S32x20000x4 (constant S_ .f32 0x3F000000#32)) (refDiff A B)) (refDiff A B))
      (subf (Host.absf (refDiff A B)) (broadcastInDim S32x20000x4 ![] bcast_S_S32x20000x4 (constant S_ .f32 0x3F000000#32))))
    (broadcastInDim S32x20000x4 ![0, 1, 2] bcast_S32x20000x1_S32x20000x4_0_1_2
      (uitofp .f32 (broadcastInDim S32x20000x1 ![0, 1] bcast_S32x20000_S32x20000x1_0_1
        (cmpi .sgt L (broadcastInDim S32x20000 ![] bcast_S_S32x20000 (constantI S_ 32 0#32))))))

/-- Their sum. -/
def refLoc (A B : FVec Ideal S32x20000x4 .f32) (L : IVec S32x20000 32) : FVec Ideal S_ .f32 :=
  Host.reduceAdd (refLocTerms A B L) (constant S_ .f32 0x00000000#32) reducesTo_S32x20000x4_S_d0_1_2 h_S_

open Idealize.SL.Sem

/-- The reference's run: its three results are these quotients, its arguments unchanged. -/
theorem reference_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v93)
          = Host.divf (refLoc (m ((c.tc : Thread nD τ).loc main_arg0)) (m ((c.tc : Thread nD τ).loc main_arg3)) (m ((c.tc : Thread nD τ).loc main_arg4)))
              (refTotal (m ((c.tc : Thread nD τ).loc main_arg4)))
      ∧ r.2.mem ((c.tc : Thread nD τ).loc main_v94)
          = Host.divf (refConf (m ((c.tc : Thread nD τ).loc main_arg1)) (m ((c.tc : Thread nD τ).loc main_arg4)))
              (refTotal (m ((c.tc : Thread nD τ).loc main_arg4)))
      ∧ r.2.mem ((c.tc : Thread nD τ).loc main_v95)
          = Host.divf (refConf (m ((c.tc : Thread nD τ).loc main_arg2)) (m ((c.tc : Thread nD τ).loc main_arg5)))
              (refTotal (m ((c.tc : Thread nD τ).loc main_arg5)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c).1.trans rfl, (h c).2.1.trans rfl, (h c).2.2.1.trans rfl, (h c).2.2.2⟩)
    (run (F := Ideal) m ρ)

end Cert.Own
-- ==== Proof.RefPoint.lean ====
/-
  The reference's classification task read at one box: the logarithms of the probabilities, the count of positives, the
  place in the double sort, and with them which boxes count.
-/
module

public import proofs.«01_k».proof.Proof.RefTask
public import proofs.«01_k».proof.Proof.KernelSearch
public import Idealize.ShloMosaic.Lib.Pointwise
public import Idealize.ShloMosaic.Lib.IndicatorCount
public import Mathlib.Tactic.Positivity

@[expose] public section

set_option maxRecDepth 16384

noncomputable section

namespace Cert.Own

open Idealize.ShloMosaic Cert.ReferenceIdeal Cert.ReferenceIdeal.Gen Cert.ReferenceIdeal.Value
open scoped BigOperators

/-- The maximum of two entries, begun from the least extended real. -/
theorem fold_max_two (f : Fin 2 → EReal) : Finset.univ.fold max ⊥ f = max (f 0) (f 1) := by
  rw [show (Finset.univ : Finset (Fin 2)) = {0, 1} from rfl, Finset.fold_insert (by decide), Finset.fold_singleton,
    max_eq_left (bot_le (a := f 1))]

/-- The logarithm of a probability of two, at real scores. -/
theorem probability (a b M : ℝ) (hM : M = max a b) :
    ((a : EReal) - (M : EReal)) - Ideal.log (Ideal.exp ((a : EReal) - (M : EReal)) + Ideal.exp ((b : EReal) - (M : EReal)))
      = ((-sp (b - a) : ℝ) : EReal) := by
  rw [← logp_real a b M hM, ← EReal.coe_sub, ← EReal.coe_sub, exp_real, exp_real, ← EReal.coe_add, log_real (by positivity),
    ← EReal.coe_sub]

/-- A choice whose condition holds. -/
theorem select_yes {α : Type} {c : BitVec 1} (h : c = 1#1) (x y : α) : Scalar.select c x y = x := if_pos h

/-- A choice whose condition fails. -/
theorem select_no {α : Type} {c : BitVec 1} (h : c ≠ 1#1) (x y : α) : Scalar.select c x y = y := if_neg h

section Probability

variable (X : FVec Ideal S32x20000x2 .f32) (q : Fin 32) (p : Fin 20000) (a b : ℝ)
  (ha : X (ix3 q p 0) = (a : EReal)) (hb : X (ix3 q p 1) = (b : EReal))

theorem refCentred_at (k : Fin 2) : refCentred X (ix3 q p k) = X (ix3 q p k) - max (X (ix3 q p 0)) (X (ix3 q p 1)) := by
  unfold refCentred
  pointwise
  rw [ninf_word]
  erw [fold_max_two]
  rw [max_eq_right bot_le]

include ha hb

/-- The logarithm of the first class's probability. -/
theorem refLogp_zero : refLogp X (ix3 q p 0) = ((-sp (b - a) : ℝ) : EReal) := by
  unfold refLogp
  pointwise
  rw [Fin.sum_univ_two, refCentred_at, refCentred_at, ha, hb, max_real]
  exact probability a b _ rfl

/-- The logarithm of the second class's probability. -/
theorem refLogp_one : refLogp X (ix3 q p 1) = ((-sp (-(b - a)) : ℝ) : EReal) := by
  unfold refLogp
  pointwise
  rw [Fin.sum_univ_two, refCentred_at, refCentred_at, ha, hb, max_real, add_comm (Ideal.exp _), neg_sub]
  exact probability b a _ (max_comm a b)

end Probability

/-- A row of the labels. -/
def labRow (L : IVec S32x20000 32) (q : Fin 32) : Fin 20000 → BitVec 32 := fun p => L (ix2 q p)

variable (X : FVec Ideal S32x20000x2 .f32) (L : IVec S32x20000 32) (q : Fin 32)

theorem refPos_iff (p : Fin 20000) : refPos L (ix2 q p) = 1#1 ↔ 0 < (L (ix2 q p)).toInt := by
  unfold refPos
  pointwise
  exact sgt_iff _ _

/-- The count of a row's positives, one where there is none. -/
theorem refCountOne_at : refCountOne L (ix2 q 0) = BitVec.ofNat 32 (nPosOne (labRow L q)) := by
  have hc : refCount L (ix2 q 0) = BitVec.ofNat 32 (nPos (labRow L q)) := by
    unfold refCount
    pointwise
    refine (IndicatorCount.fold_addi_setWidth_eq_card _ _).trans ?_
    unfold nPos labRow
    refine congrArg (BitVec.ofNat 32) (congrArg Finset.card (Finset.filter_congr fun p _ => ?_))
    exact refPos_iff L q p
  unfold refCountOne
  pointwise
  rw [hc]
  have h1 := nPos_le (labRow L q)
  unfold nPosOne
  by_cases h : nPos (labRow L q) = 0
  · refine (select_yes ((eq_iff _ _).mpr ?_) _ _).trans ?_
    · rw [h]
    · rw [h]
      rfl
  · refine (select_no (fun e => h ?_) _ _).trans ?_
    · have e' := (eq_iff _ _).mp e
      rw [toInt_small (by omega), show (0#32 : BitVec 32).toInt = 0 from rfl] at e'
      exact_mod_cast e'
    · rw [max_eq_left (by omega)]

/-- The key of a positive. -/
theorem refKey_pos (p : Fin 20000) (h : 0 < (L (ix2 q p)).toInt) : refKey X L (ix2 q p) = (⊤ : EReal) := by
  unfold refKey
  pointwise
  rw [select_yes ((refPos_iff L q p).mpr h)]
  show -(Ideal.ofBits .f32 0xFF800000#32 : EReal) = ⊤
  rw [ninf_word]
  exact EReal.neg_bot

/-- The key of a negative. -/
theorem refKey_neg (p : Fin 20000) (h : ¬ 0 < (L (ix2 q p)).toInt) : refKey X L (ix2 q p) = refLogp X (ix3 q p 0) := by
  unfold refKey
  pointwise
  rw [select_no fun e => h ((refPos_iff L q p).mp e)]
  exact neg_neg (refLogp X (ix3 q p 0) : EReal)

end Cert.Own
-- ==== Proof.RefRank.lean ====
/-
  Which boxes the reference counts: its double sort gives each box its place in its row's order of keys.
-/
module

public import proofs.«01_k».proof.Proof.RefPoint

@[expose] public section

set_option maxRecDepth 16384

noncomputable section

namespace Cert.Own

open Idealize.ShloMosaic Cert.ReferenceIdeal Cert.ReferenceIdeal.Gen Cert.ReferenceIdeal.Value
open scoped BigOperators

variable (X : FVec Ideal S32x20000x2 .f32) (L : IVec S32x20000 32) (q : Fin 32)

/-- A sort of pairs along the rows: the second operand permuted by the sort of the row. -/
theorem sort2_row {R n : ℕ} {α β : Type} (cmp : α × β → α × β → BitVec 1) (x : (⟨2, ![R, n]⟩ : Shape).Idx → α)
    (y : (⟨2, ![R, n]⟩ : Shape).Idx → β) (q : Fin R) (p : Fin n) :
    (Host.sort2 ⟨2, ![R, n]⟩ 1 cmp x y).2 (ix2 q p)
      = y (ix2 q (sortedFrom (fun k k' => cmp (x (ix2 q k), y (ix2 q k)) (x (ix2 q k'), y (ix2 q k')) == 1#1) p)) := by
  have hal : ∀ k : Fin n, (ix2 q p : (⟨2, ![R, n]⟩ : Shape).Idx).along 1 k = ix2 q k := by
    intro k
    funext a
    match a with
    | ⟨0, _⟩ => rfl
    | ⟨1, _⟩ => rfl
  unfold Host.sort2
  rw [dif_pos (show 1 < (⟨2, ![R, n]⟩ : Shape).rank from Nat.lt_succ_self 1)]
  refine (congrArg y (hal _)).trans ?_
  refine congrArg (fun z => y (ix2 q z)) ?_
  show sortedFrom (fun k k' => cmp (x ((ix2 q p : (⟨2, ![R, n]⟩ : Shape).Idx).along 1 k), y ((ix2 q p : (⟨2, ![R, n]⟩ : Shape).Idx).along 1 k))
    (x ((ix2 q p : (⟨2, ![R, n]⟩ : Shape).Idx).along 1 k'), y ((ix2 q p : (⟨2, ![R, n]⟩ : Shape).Idx).along 1 k')) == 1#1) p = _
  refine congrFun (sortedFrom_congr _ _ fun k k' _ => ?_) p
  rw [hal, hal]

/-- The first sort's comparison is the order of the keys. -/
theorem compare_keys (l r : Ideal .f32 × BitVec 32) :
    (comparator_f32_i32_d1 (F := Ideal) l r == 1#1) = decide ((l.1 : EReal) < (r.1 : EReal)) := by
  have hz : ∀ x : EReal, Scalar.select (Ideal.cmp .oeq x 0) (0 : EReal) x = x := by
    intro x
    unfold Scalar.select
    split
    · rename_i e
      have e' := (ofBool_eq_one _).mp e
      exact (of_decide_eq_true e').symm
    · rfl
  have hn : ∀ x y : EReal, Scalar.select (Ideal.cmp .une x x) y x = x := by
    intro x y
    unfold Scalar.select
    rw [if_neg]
    intro e
    have e' := (ofBool_eq_one _).mp e
    exact (of_decide_eq_true e') rfl
  have h : comparator_f32_i32_d1 (F := Ideal) l r = Ideal.cmp .olt l.1 r.1 := by
    show Ideal.cmp .olt (Scalar.select (Ideal.cmp .une l.1 l.1) _ (Scalar.select (Ideal.cmp .oeq l.1 (Ideal.ofBits .f32 0#32)) (Ideal.ofBits .f32 0#32) l.1))
      (Scalar.select (Ideal.cmp .une r.1 r.1) _ (Scalar.select (Ideal.cmp .oeq r.1 (Ideal.ofBits .f32 0#32)) (Ideal.ofBits .f32 0#32) r.1)) = _
    rw [Ideal.ofBits_zero_f32]
    erw [hz, hz, hn, hn]
  rw [h]
  show (BitVec.ofBool (decide ((l.1 : EReal) < (r.1 : EReal))) == 1#1) = _
  by_cases e : (l.1 : EReal) < (r.1 : EReal)
  · rw [decide_eq_true e]; rfl
  · rw [decide_eq_false e]; rfl

/-- A row of the keys. -/
def keyRow : Fin 20000 → EReal := fun p => refKey X L (ix2 q p)

/-- A box's number in the row, as the iota writes it. -/
theorem iota_at (p : Fin 20000) : iotaInDim S32x20000 32 1 (ix2 q p) = BitVec.ofNat 32 p.val := rfl

theorem refOrder_at (p : Fin 20000) :
    refOrder X L (ix2 q p) = BitVec.ofNat 32 (sortedFrom (fun a b => decide (keyRow X L q a < keyRow X L q b)) p).val := by
  unfold refOrder
  refine (sort2_row _ _ _ q p).trans ?_
  rw [iota_at]
  refine congrArg (fun z : Fin 20000 => BitVec.ofNat 32 z.val) (congrFun (sortedFrom_congr _ _ fun k k' _ => ?_) p)
  exact compare_keys _ _

/-- A box's rank is its place in the row's order. -/
theorem refRank_at (p : Fin 20000) : refRank X L (ix2 q p) = BitVec.ofNat 32 (place (keyRow X L q) p).val := by
  unfold refRank
  refine (sort2_row _ _ _ q p).trans ?_
  rw [iota_at]
  refine congrArg (fun z : Fin 20000 => BitVec.ofNat 32 z.val) (congrFun (sortedFrom_congr _ _ fun k k' _ => ?_) p)
  show (IntOp.cmpi .slt (refOrder X L (ix2 q k)) (refOrder X L (ix2 q k')) == 1#1) = _
  rw [refOrder_at, refOrder_at]
  generalize sortedFrom (fun a b => decide (keyRow X L q a < keyRow X L q b)) k = i
  generalize sortedFrom (fun a b => decide (keyRow X L q a < keyRow X L q b)) k' = j
  have hi := i.isLt
  have hj := j.isLt
  have h := slt_iff (BitVec.ofNat 32 i.val) (BitVec.ofNat 32 j.val)
  rw [toInt_small (by omega), toInt_small (by omega)] at h
  by_cases e : i < j
  · rw [decide_eq_true e, h.mpr (by exact_mod_cast e)]
    rfl
  · rw [decide_eq_false e]
    exact beq_eq_false_iff_ne.mpr fun h' => e (by exact_mod_cast h.mp h')

/-- A column copied along the rows. -/
theorem column_at (v : IVec S32x1 32) (p : Fin 20000) :
    broadcastInDim S32x20000 ![0, 1] bcast_S32x1_S32x20000_0_1 v (ix2 q p) = v (ix2 q 0) := by
  pointwise

/-- Three times the count of a row's positives. -/
theorem refBound_at : muli (refCountOne L) (broadcastInDim S32x1 ![] bcast_S_S32x1 (constantI S_ 32 3#32)) (ix2 q 0)
    = BitVec.ofNat 32 (nPosOne (labRow L q) * 3) := by
  pointwise
  rw [refCountOne_at, show (3#32 : BitVec 32) = BitVec.ofNat 32 3 from rfl, muli_small]

/-- Which boxes count: the positives, and those placed below three times their number. -/
theorem refMask_iff (p : Fin 20000) :
    refMask X L (ix2 q p) = 1#1 ↔ 0 < (L (ix2 q p)).toInt ∨ (place (keyRow X L q) p).val < nPosOne (labRow L q) * 3 := by
  have hor : ∀ x y : BitVec 1, IntOp.ori x y = 1#1 ↔ x = 1#1 ∨ y = 1#1 := by decide
  unfold refMask
  refine (hor _ _).trans (or_congr (refPos_iff L q p) ?_)
  refine (slt_iff _ _).trans ?_
  rw [column_at, refBound_at, refRank_at]
  have h1 := (place (keyRow X L q) p).isLt
  have h2 := nPosOne_le (labRow L q)
  rw [toInt_small (by omega), toInt_small (by omega)]
  exact Nat.cast_lt

end Cert.Own
-- ==== Proof.RefTerms.lean ====
/-
  The reference's focal terms and their sum: with labels zero and one and real scores, a row's terms add up to the
  positives' focal terms and those of the negatives placed first.
-/
module

public import proofs.«01_k».proof.Proof.RefRank
public import proofs.«01_k».proof.Proof.Whole

@[expose] public section

set_option maxRecDepth 16384

noncomputable section

namespace Cert.Own

open Idealize.ShloMosaic Cert.ReferenceIdeal Cert.ReferenceIdeal.Gen Cert.ReferenceIdeal.Value
open scoped BigOperators

variable (X : FVec Ideal S32x20000x2 .f32) (L : IVec S32x20000 32) (q : Fin 32) (p : Fin 20000)

/-- Reading each box's own class: batch coordinates from the result, the class from the start index. -/
theorem gather_at (x : S32x20000x2.Idx → Ideal .f32) (idx : IVec S32x20000x1x1 32) (k : Fin 2)
    (h : idx (ix4 q p 0 0) = BitVec.ofNat 32 k.val) :
    Host.gather gather_S32x20000x2_S32x20000x1x1_S32x20000x1_n_2_01_01_2_3_111 x idx (ix3 q p 0) = x (ix3 q p k) := by
  unfold Host.gather
  refine congrArg x (funext fun a => Fin.ext ?_)
  match a with
  | ⟨0, _⟩ => exact Nat.zero_add q.val
  | ⟨1, _⟩ => exact Nat.zero_add p.val
  | ⟨2, _⟩ =>
    have hs : (gather_S32x20000x2_S32x20000x1x1_S32x20000x1_n_2_01_01_2_3_111).siIdx (ix3 q p 0) ⟨0, Nat.zero_lt_one⟩ = ix4 q p 0 0 := by
      funext b
      match b with
      | ⟨0, _⟩ => rfl
      | ⟨1, _⟩ => rfl
      | ⟨2, _⟩ => rfl
      | ⟨3, _⟩ => rfl
    have hk := k.isLt
    show min (idx ((gather_S32x20000x2_S32x20000x1x1_S32x20000x1_n_2_01_01_2_3_111).siIdx (ix3 q p 0) ⟨0, Nat.zero_lt_one⟩)).toInt.toNat 1 = k.val
    rw [hs, h, toInt_small (by omega), Int.toNat_natCast]
    omega

/-- A label that is zero or one is its own start index. -/
theorem refStart_at (k : Fin 2) (h : L (ix2 q p) = BitVec.ofNat 32 k.val) : refStart L (ix4 q p 0 0) = BitVec.ofNat 32 k.val := by
  unfold refStart refColumn
  pointwise
  rw [h]
  clear h
  revert k
  decide

/-- And lies inside the classes. -/
theorem refInside_at (k : Fin 2) (h : L (ix2 q p) = BitVec.ofNat 32 k.val) : refInside L (ix3 q p 0) = 1#1 := by
  have hs := refStart_at L q p k h
  unfold refInside
  pointwise
  rw [show (Finset.univ : Finset (Fin 1)) = {0} from rfl, Finset.fold_singleton, hs]
  clear h hs
  revert k
  decide

/-- The logarithm of the probability of a box's own class. -/
theorem refPicked_at (k : Fin 2) (h : L (ix2 q p) = BitVec.ofNat 32 k.val) : refPicked X L (ix2 q p) = refLogp X (ix3 q p k) := by
  unfold refPicked
  pointwise
  rw [select_yes (refInside_at L q p k h)]
  exact gather_at q p _ _ k (refStart_at L q p k h)

/-- A bit is zero or one. -/
theorem bit_cases (x : BitVec 1) : x = 0#1 ∨ x = 1#1 := by revert x; decide

/-- A focal term of the reference, at a box whose own class has the logarithm `-l`. -/
theorem refTerms_at (l : ℝ) (h : refPicked X L (ix2 q p) = ((-l : ℝ) : EReal)) :
    refTerms X L (ix2 q p) = ((if refMask X L (ix2 q p) = 1#1 then focal l else 0 : ℝ) : EReal) := by
  unfold refTerms
  pointwise
  rw [h, neg_quarter, two_word, ref_focal]
  rcases bit_cases (refMask X L (ix2 q p)) with e | e
  · rw [e, if_neg (by decide), show (FloatOps.uitofp .f32 0#1 : Ideal .f32) = (((0 : ℕ) : ℝ) : EReal) from rfl]
    simp
  · rw [e, if_pos rfl, show (FloatOps.uitofp .f32 1#1 : Ideal .f32) = (((1 : ℕ) : ℝ) : EReal) from rfl]
    simp

variable (a b : Fin 20000 → ℝ)
  (ha : ∀ p, X (ix3 q p 0) = (a p : EReal)) (hb : ∀ p, X (ix3 q p 1) = (b p : EReal))
  (hl : ∀ p, ∃ k : Fin 2, L (ix2 q p) = BitVec.ofNat 32 k.val)

/-- The negatives the reference counts in a row. -/
def refChosen : Finset (Fin 20000) :=
  firstNegatives (keyRow X L q) (fun p => 0 < (L (ix2 q p)).toInt) (nPosOne (labRow L q) * 3)

include ha hb

/-- A row's keys are infinite at the positives. -/
theorem keyRow_pos (p : Fin 20000) (h : 0 < (L (ix2 q p)).toInt) : keyRow X L q p = ⊤ := refKey_pos X L q p h

/-- And at the negatives fall as the score difference grows. -/
theorem keyRow_neg (p : Fin 20000) (h : ¬ 0 < (L (ix2 q p)).toInt) : keyRow X L q p = ((-sp (b p - a p) : ℝ) : EReal) :=
  (refKey_neg X L q p h).trans (refLogp_zero X q p _ _ (ha p) (hb p))

theorem refChosen_top :
    IsTop (Finset.univ.filter fun p => ¬ 0 < (L (ix2 q p)).toInt) (refChosen X L q) fun p => b p - a p :=
  firstNegatives_top _ _ _ (fun p h => refKey_pos X L q p h) (keyRow_neg X L q a b ha hb) _

theorem refChosen_card : (refChosen X L q).card = nNeg (labRow L q) :=
  (firstNegatives_card _ _ (fun p => b p - a p) (fun p h => refKey_pos X L q p h) (keyRow_neg X L q a b ha hb) _).trans rfl

include hl

/-- A row's terms add up to the positives' and the chosen negatives'. -/
theorem refRow_sum : ∑ p, refTerms X L (ix2 q p) = ((confRow (fun p => b p - a p) (labRow L q) (refChosen X L q) : ℝ) : EReal) := by
  have ht : ∀ p, refTerms X L (ix2 q p) = (((if 0 < (labRow L q p).toInt then focal (sp (-(b p - a p))) else 0)
      + (if p ∈ refChosen X L q then focal (sp (b p - a p)) else 0) : ℝ) : EReal) := by
    intro p
    obtain ⟨k, hk⟩ := hl p
    have hmem : p ∈ refChosen X L q ↔ ¬ 0 < (L (ix2 q p)).toInt ∧ (place (keyRow X L q) p).val < nPosOne (labRow L q) * 3 := by
      unfold refChosen firstNegatives
      rw [Finset.mem_filter]
      exact ⟨fun h => h.2, fun h => ⟨Finset.mem_univ _, h⟩⟩
    have hlab : labRow L q p = L (ix2 q p) := rfl
    rw [hlab]
    match k, hk with
    | ⟨0, _⟩, hk =>
      have hn : ¬ 0 < (L (ix2 q p)).toInt := by
        rw [hk]
        exact (by decide : ¬ 0 < (BitVec.ofNat 32 0).toInt)
      rw [refTerms_at X L q p (sp (b p - a p)) ((refPicked_at X L q p 0 hk).trans (refLogp_zero X q p _ _ (ha p) (hb p))), if_neg hn, zero_add]
      refine congrArg (fun r : ℝ => (r : EReal)) (if_congr ?_ rfl rfl)
      rw [hmem, refMask_iff]
      exact ⟨fun h => ⟨hn, h.resolve_left hn⟩, fun h => Or.inr h.2⟩
    | ⟨1, _⟩, hk =>
      have hp : 0 < (L (ix2 q p)).toInt := by
        rw [hk]
        exact (by decide : 0 < (BitVec.ofNat 32 1).toInt)
      rw [refTerms_at X L q p (sp (-(b p - a p))) ((refPicked_at X L q p 1 hk).trans (refLogp_one X q p _ _ (ha p) (hb p))), if_pos hp,
        if_neg (fun h => (hmem.mp h).1 hp), add_zero, if_pos ((refMask_iff X L q p).mpr (Or.inl hp))]
  rw [Finset.sum_congr rfl fun p _ => ht p, sum_real, Finset.sum_add_distrib]
  refine EReal.coe_eq_coe_iff.2 ?_
  unfold confRow
  refine congrArg₂ (· + ·) rfl ?_
  rw [Finset.sum_ite_mem, Finset.univ_inter]

end Cert.Own
-- ==== Proof.RefSums.lean ====
/-
  The reference's sums over the whole batch: the confidence loss, the location loss and the number of positives.
-/
module

public import proofs.«01_k».proof.Proof.RefTerms

@[expose] public section

set_option maxRecDepth 16384

noncomputable section

namespace Cert.Own

open Idealize.ShloMosaic Cert.ReferenceIdeal Cert.ReferenceIdeal.Gen Cert.ReferenceIdeal.Value
open scoped BigOperators

variable (L : IVec S32x20000 32)

/-- The confidence loss is the sum of the rows'. -/
theorem refConf_sum (X : FVec Ideal S32x20000x2 .f32) (a b : Fin 32 → Fin 20000 → ℝ)
    (ha : ∀ q p, X (ix3 q p 0) = (a q p : EReal)) (hb : ∀ q p, X (ix3 q p 1) = (b q p : EReal))
    (hl : ∀ q p, ∃ k : Fin 2, L (ix2 q p) = BitVec.ofNat 32 k.val) :
    refConf X L ix0 = ((∑ q, confRow (fun p => b q p - a q p) (labRow L q) (refChosen X L q) : ℝ) : EReal) := by
  unfold refConf
  pointwise
  rw [Finset.sum_congr rfl fun q _ => refRow_sum X L q (a q) (b q) (ha q) (hb q) (hl q), sum_real]

/-- The smooth-L1 term of one coordinate of one box. -/
theorem refLocTerms_at (A B : FVec Ideal S32x20000x4 .f32) (q : Fin 32) (p : Fin 20000) (k : Fin 4) :
    refLocTerms A B L (ix3 q p k) = if 0 < (labRow L q p).toInt then sl1 (A (ix3 q p k)) (B (ix3 q p k)) else 0 := by
  unfold refLocTerms refDiff
  pointwise
  have hsel : ∀ x : EReal, (if FloatOps.absf (φ := .f32) (A (ix3 q p k) - B (ix3 q p k)) < (1 : EReal) then
        Ideal.ofBits FTy.f32 1056964608#32 * (A (ix3 q p k) - B (ix3 q p k)) * (A (ix3 q p k) - B (ix3 q p k))
      else FloatOps.absf (φ := .f32) (A (ix3 q p k) - B (ix3 q p k)) - Ideal.ofBits FTy.f32 1056964608#32) = x → sl1 (A (ix3 q p k)) (B (ix3 q p k)) = x := by
    rintro x rfl
    unfold sl1
    rw [Ideal.ofBits_one_f32]
    show (if BitVec.ofBool (decide _) = 1#1 then _ else _) = _
    refine if_congr ?_ rfl rfl
    rw [ofBool_eq_one, decide_eq_true_iff]
    exact Iff.rfl
  rw [hsel _ rfl]
  have hlab : labRow L q p = L (ix2 q p) := rfl
  rw [hlab]
  by_cases h : 0 < (L (ix2 q p)).toInt
  · rw [if_pos h, (sgt_iff (L (ix2 q p)) 0#32).mpr h, show (FloatOps.uitofp .f32 1#1 : Ideal .f32) = (((1 : ℕ) : ℝ) : EReal) from rfl, Nat.cast_one,
      EReal.coe_one, mul_one]
  · rw [if_neg h, (bit_cases _).resolve_right fun e => h ((sgt_iff (L (ix2 q p)) 0#32).mp e),
      show (FloatOps.uitofp .f32 0#1 : Ideal .f32) = (((0 : ℕ) : ℝ) : EReal) from rfl, Nat.cast_zero, EReal.coe_zero, mul_zero]

/-- The location loss is the sum of the rows'. -/
theorem refLoc_sum (A B : FVec Ideal S32x20000x4 .f32) :
    refLoc A B L ix0 = ∑ q : Fin 32, locRow (fun p k => A (ix3 q p k)) (fun p k => B (ix3 q p k)) (labRow L q) := by
  unfold refLoc
  pointwise
  refine Finset.sum_congr rfl fun q _ => ?_
  unfold locRow
  refine Finset.sum_congr rfl fun p _ => ?_
  rw [Finset.sum_congr rfl fun k _ => refLocTerms_at L A B q p k]
  by_cases h : 0 < (labRow L q p).toInt
  · rw [if_pos h]
    exact Finset.sum_congr rfl fun k _ => if_pos h
  · rw [if_neg h]
    exact Finset.sum_eq_zero fun k _ => if_neg h

/-- A sum of small counts, taken in words. -/
theorem fold_counts {ι : Type} [DecidableEq ι] (S : Finset ι) (f : ι → ℕ) (w : ι → BitVec 32) (h : ∀ i, w i = BitVec.ofNat 32 (f i)) :
    S.fold IntOp.addi (0#32) w = BitVec.ofNat 32 (∑ i ∈ S, f i) := by
  induction S using Finset.induction_on with
  | empty => rfl
  | insert i S hi ih =>
    rw [Finset.fold_insert hi, Finset.sum_insert hi, ih, h]
    exact (BitVec.ofNat_add _ _).symm

/-- The number of positives of the batch. -/
theorem refTotal_sum : refTotal L ix0 = (((∑ q : Fin 32, nPosOne (labRow L q) : ℕ) : ℝ) : EReal) := by
  unfold refTotal
  pointwise
  rw [fold_counts Finset.univ (fun k => nPosOne (labRow L k.1)) _ fun k => by
    rw [show k.2 = 0 from Subsingleton.elim _ _]
    exact refCountOne_at L k.1]
  have hs : ∑ k : Fin 32 × Fin 1, nPosOne (labRow L k.1) = ∑ q : Fin 32, nPosOne (labRow L q) := by
    rw [Fintype.sum_prod_type]
    exact Finset.sum_congr rfl fun q _ => Fin.sum_univ_one _
  rw [hs]
  have hb : ∑ q : Fin 32, nPosOne (labRow L q) ≤ 640000 := by
    refine (Finset.sum_le_card_nsmul _ _ 20000 fun q _ => nPosOne_le _).trans ?_
    simp
  show (((BitVec.ofNat 32 (∑ q : Fin 32, nPosOne (labRow L q))).toInt : ℝ) : EReal) = _
  rw [toInt_small (by omega), Int.cast_natCast]

end Cert.Own
-- ==== Proof.Pre.lean ====
/-
  What the precondition says, box by box: labels are zero or one, scores are real, and the words that stand for a score
  difference are ordered as the differences are.
-/
module

public import proofs.«01_k».proof.Proof.Frames
public import proofs.«01_k».proof.Proof.Words
public import proofs.«01_k».proof.Proof.RefTerms
public import Idealize.ShloMosaic.Lib.ReduceAll

@[expose] public section

set_option maxRecDepth 16384

noncomputable section

namespace Cert.Own

open Idealize.ShloMosaic Cert.Pre_in_range Cert.Pre_in_range.Facts

/-- Every label is at least zero and below two. -/
def preLabels (L : IVec S32x20000 32) : IVec S_ 1 :=
  Host.reduce IntOp.andi (andi (cmpi .sge L (broadcastInDim S32x20000 ![] bcast_S_S32x20000 (constantI S_ 32 0#32)))
    (cmpi .slt L (broadcastInDim S32x20000 ![] bcast_S_S32x20000 (constantI S_ 32 2#32)))) (constantI S_ 1 1#1) reducesTo_S32x20000_S_d0_1 h_S_

/-- Every score is below infinity in size. -/
def preFinite (X : FVec Ideal S32x20000x2 .f32) : IVec S_ 1 :=
  Host.reduce IntOp.andi (cmpf .olt (Host.absf X) (broadcastInDim S32x20000x2 ![] bcast_S_S32x20000x2 (constant S_ .f32 0x7F800000#32)))
    (constantI S_ 1 1#1) reducesTo_S32x20000x2_S_d0_1_2 h_S_

/-- The order key of each word. -/
def preKey (U : IVec S32x20000 32) : IVec S32x20000 32 :=
  select (cmpi .sge U (broadcastInDim S32x20000 ![] bcast_S_S32x20000 (constantI S_ 32 0#32))) U
    (xori U (broadcastInDim S32x20000 ![] bcast_S_S32x20000 (constantI S_ 32 2147483647#32)))

/-- The score differences. -/
def preDiff (X : FVec Ideal S32x20000x2 .f32) : FVec Ideal S32x20000 .f32 :=
  subf (shapeCast S32x20000 (extractStridedSlice S32x20000x1 ![0, 0, 1] X slices_S32x20000x2_S32x20000x1_0_0_1) shapeCasts_S32x20000x1_S32x20000)
    (shapeCast S32x20000 (extractStridedSlice S32x20000x1 ![0, 0, 0] X slices_S32x20000x2_S32x20000x1_0_0_0) shapeCasts_S32x20000x1_S32x20000)

/-- For each pair of boxes of a row: the first key is greater, or the first difference is at most the second. -/
def prePairs (X : FVec Ideal S32x20000x2 .f32) (U : IVec S32x20000 32) : IVec S32x20000x20000 1 :=
  ori (cmpi .sgt
      (broadcastInDim S32x20000x20000 ![0, 1, 2] bcast_S32x20000x1_S32x20000x20000_0_1_2
        (broadcastInDim S32x20000x1 ![0, 1] bcast_S32x20000_S32x20000x1_0_1 (preKey U)))
      (broadcastInDim S32x20000x20000 ![0, 1, 2] bcast_S32x1x20000_S32x20000x20000_0_1_2
        (broadcastInDim S32x1x20000 ![0, 2] bcast_S32x20000_S32x1x20000_0_2 (preKey U))))
    (cmpf .ole
      (broadcastInDim S32x20000x20000 ![0, 1, 2] bcast_S32x20000x1_S32x20000x20000_0_1_2
        (broadcastInDim S32x20000x1 ![0, 1] bcast_S32x20000_S32x20000x1_0_1 (preDiff X)))
      (broadcastInDim S32x20000x20000 ![0, 1, 2] bcast_S32x1x20000_S32x20000x20000_0_1_2
        (broadcastInDim S32x1x20000 ![0, 2] bcast_S32x20000_S32x1x20000_0_2 (preDiff X))))

/-- The words follow the differences, and none is minus one. -/
def preWords (X : FVec Ideal S32x20000x2 .f32) (U : IVec S32x20000 32) : IVec S_ 1 :=
  andi (Host.reduce IntOp.andi (prePairs X U) (constantI S_ 1 1#1) reducesTo_S32x20000x20000_S_d0_1_2 h_S_)
    (Host.reduce IntOp.andi (cmpi .ne U (broadcastInDim S32x20000 ![] bcast_S_S32x20000 (constantI S_ 32 4294967295#32)))
      (constantI S_ 1 1#1) reducesTo_S32x20000_S_d0_1 h_S_)

/-- The precondition is all of these, of both tasks. -/
theorem pre_eq (A B : FVec Ideal S32x20000x4 .f32) (X Y : FVec Ideal S32x20000x2 .f32) (L M U V : IVec S32x20000 32) :
    Cert.Pre_in_range.fn (F := Ideal) A X Y B L M U V
      = andi (andi (andi (andi (preLabels L) (preLabels M)) (andi (preFinite X) (preFinite Y))) (preWords X U)) (preWords Y V) := rfl

theorem andi_iff (x y : BitVec 1) : IntOp.andi x y = 1#1 ↔ x = 1#1 ∧ y = 1#1 := by revert x y; decide

theorem labels_read (L : IVec S32x20000 32) (h : preLabels L ix0 = 1#1) (q : Fin 32) (p : Fin 20000) :
    ∃ k : Fin 2, L (ix2 q p) = BitVec.ofNat 32 k.val := by
  have h1 : IntOp.andi (IntOp.cmpi .sge (L (ix2 q p)) 0#32) (IntOp.cmpi .slt (L (ix2 q p)) 2#32) = 1#1 :=
    Host.reduce_andi_all _ _ _ _ ix0 h (ix2 q p)
  obtain ⟨h0, h2⟩ := (andi_iff _ _).mp h1
  have h0' := (sge_iff _ _).mp h0
  have h2' := (slt_iff _ _).mp h2
  generalize L (ix2 q p) = w at *
  rw [show (0#32 : BitVec 32).toInt = 0 from rfl] at h0'
  rw [show (2#32 : BitVec 32).toInt = 2 from rfl] at h2'
  have hc : w.toInt = 0 ∨ w.toInt = 1 := by omega
  rcases hc with e | e
  · exact ⟨0, BitVec.eq_of_toInt_eq e⟩
  · exact ⟨1, BitVec.eq_of_toInt_eq e⟩

/-- An extended real below infinity in size is a real. -/
theorem real_of_size (x : EReal) (h : max x (-x) < ⊤) : ((x.toReal : ℝ) : EReal) = x := by
  refine EReal.coe_toReal (fun e => ?_) fun e => ?_
  · rw [e] at h
    exact absurd (le_max_left _ _) (not_le.mpr h)
  · rw [e, EReal.neg_bot] at h
    exact absurd (le_max_right _ _) (not_le.mpr h)

theorem finite_read (X : FVec Ideal S32x20000x2 .f32) (h : preFinite X ix0 = 1#1) (q : Fin 32) (p : Fin 20000) (k : Fin 2) :
    X (ix3 q p k) = (((X (ix3 q p k) : EReal).toReal : ℝ) : EReal) := by
  have h1 : Ideal.cmp .olt (max (X (ix3 q p k) : EReal) (-(X (ix3 q p k) : EReal))) (Ideal.ofBits .f32 0x7F800000#32) = 1#1 :=
    Host.reduce_andi_all _ _ _ _ ix0 h (ix3 q p k)
  have h2 := of_decide_eq_true ((ofBool_eq_one _).mp h1)
  refine (real_of_size _ (lt_of_lt_of_le h2 le_top)).symm

theorem preKey_at (U : IVec S32x20000 32) (q : Fin 32) (p : Fin 20000) : preKey U (ix2 q p) = rawKey (U (ix2 q p)) := by
  show Scalar.select (IntOp.cmpi .sge (U (ix2 q p)) 0#32) (U (ix2 q p)) (IntOp.xori (U (ix2 q p)) 2147483647#32) = _
  unfold rawKey
  exact if_congr (sge_iff _ _) rfl rfl

theorem preDiff_at (X : FVec Ideal S32x20000x2 .f32) (q : Fin 32) (p : Fin 20000) :
    preDiff X (ix2 q p) = (X (ix3 q p 1) : EReal) - (X (ix3 q p 0) : EReal) := by
  unfold preDiff
  pointwise

theorem prePairs_at (X : FVec Ideal S32x20000x2 .f32) (U : IVec S32x20000 32) (q : Fin 32) (p p' : Fin 20000) :
    prePairs X U (ix3 q p p') = IntOp.ori (IntOp.cmpi .sgt (preKey U (ix2 q p)) (preKey U (ix2 q p')))
      (Ideal.cmp .ole (preDiff X (ix2 q p)) (preDiff X (ix2 q p'))) := by
  have hi : ∀ v : IVec S32x20000 32, broadcastInDim S32x20000x20000 ![0, 1, 2] bcast_S32x20000x1_S32x20000x20000_0_1_2
        (broadcastInDim S32x20000x1 ![0, 1] bcast_S32x20000_S32x20000x1_0_1 v) (ix3 q p p') = v (ix2 q p) := fun v => by pointwise
  have hj : ∀ v : IVec S32x20000 32, broadcastInDim S32x20000x20000 ![0, 1, 2] bcast_S32x1x20000_S32x20000x20000_0_1_2
        (broadcastInDim S32x1x20000 ![0, 2] bcast_S32x20000_S32x1x20000_0_2 v) (ix3 q p p') = v (ix2 q p') := fun v => by pointwise
  have hi' : ∀ v : FVec Ideal S32x20000 .f32, broadcastInDim S32x20000x20000 ![0, 1, 2] bcast_S32x20000x1_S32x20000x20000_0_1_2
        (broadcastInDim S32x20000x1 ![0, 1] bcast_S32x20000_S32x20000x1_0_1 v) (ix3 q p p') = v (ix2 q p) := fun v => by pointwise
  have hj' : ∀ v : FVec Ideal S32x20000 .f32, broadcastInDim S32x20000x20000 ![0, 1, 2] bcast_S32x1x20000_S32x20000x20000_0_1_2
        (broadcastInDim S32x1x20000 ![0, 2] bcast_S32x20000_S32x1x20000_0_2 v) (ix3 q p p') = v (ix2 q p') := fun v => by pointwise
  exact congrArg₂ IntOp.ori (congrArg₂ (IntOp.cmpi .sgt) (hi _) (hj _)) (congrArg₂ (Ideal.cmp .ole) (hi' _) (hj' _))

/-- The words follow the differences. -/
theorem words_read (X : FVec Ideal S32x20000x2 .f32) (U : IVec S32x20000 32) (h : preWords X U ix0 = 1#1) (a b : Fin 32 → Fin 20000 → ℝ)
    (ha : ∀ q p, X (ix3 q p 0) = (a q p : EReal)) (hb : ∀ q p, X (ix3 q p 1) = (b q p : EReal)) (q : Fin 32) (p p' : Fin 20000)
    (hk : (rawKey (U (ix2 q p))).toInt ≤ (rawKey (U (ix2 q p'))).toInt) : b q p - a q p ≤ b q p' - a q p' := by
  have hor : ∀ x y : BitVec 1, IntOp.ori x y = 1#1 → x = 1#1 ∨ y = 1#1 := by decide
  have h1 := Host.reduce_andi_all _ _ _ _ ix0 ((andi_iff _ _).mp h).1 (ix3 q p p')
  rw [prePairs_at, preKey_at, preKey_at] at h1
  rcases hor _ _ h1 with e | e
  · exact absurd ((sgt_iff _ _).mp e) (not_lt.mpr hk)
  · have e' := of_decide_eq_true ((ofBool_eq_one _).mp e)
    rw [preDiff_at, preDiff_at, ha, hb, ha, hb, ← EReal.coe_sub, ← EReal.coe_sub] at e'
    exact EReal.coe_le_coe_iff.mp e'

/-- No word is minus one. -/
theorem words_ne (X : FVec Ideal S32x20000x2 .f32) (U : IVec S32x20000 32) (h : preWords X U ix0 = 1#1) (q : Fin 32) (p : Fin 20000) :
    U (ix2 q p) ≠ 4294967295#32 :=
  (ne_iff _ _).mp (Host.reduce_andi_all _ _ _ _ ix0 ((andi_iff _ _).mp h).2 (ix2 q p))

end Cert.Own
-- ==== Proof.Algebraic.lean ====
/-
  The kernel's three results are the reference's, over extended reals and under the precondition.
-/
module

public import proofs.«01_k».proof.Proof.KernelRun
public import proofs.«01_k».proof.Proof.Whole
public import proofs.«01_k».proof.Proof.RefSums
public import proofs.«01_k».proof.Proof.Pre

@[expose] public section

set_option maxRecDepth 16384

noncomputable section

namespace Cert.Own

open Idealize.ShloMosaic Idealize.SL.Sem

variable (m : (ℓ : Loc Cert.KernelIdeal.nD Cert.KernelIdeal.τ Cert.KernelIdeal.sig) → Buf (Elt Ideal) ℓ)
  (c : Dev Cert.KernelIdeal.nD)

/-- A quotient of two rank-zero arrays equal to two of the kernel's words. -/
theorem ratio_of (x y : FVec Ideal Cert.ReferenceIdeal.S_ .f32) (w : Vec Ideal Cert.KernelIdeal.S5 .f32) (i j : Fin 5)
    (hx : w (ix1 i) = x ix0) (hy : w (ix1 j) = y ix0) : Host.divf x y = ratio w i j := by
  funext k
  rw [show k = ix0 from Subsingleton.elim _ _]
  unfold ratio
  rw [hx, hy]
  rfl

/-- The confidence losses agree, given how the kernel's word reads at any admissible choice of negatives. -/
theorem conf_agree (X : FVec Ideal Cert.ReferenceIdeal.S32x20000x2 .f32) (L U : IVec Cert.ReferenceIdeal.S32x20000 32) (w : EReal)
    (hL : preLabels L ix0 = 1#1) (hX : preFinite X ix0 = 1#1) (hU : preWords X U ix0 = 1#1)
    (hw : ∀ (a b : Fin 32 → Fin 20000 → ℝ), (∀ q p, X (ix3 q p 0) = (a q p : EReal)) → (∀ q p, X (ix3 q p 1) = (b q p : EReal)) →
      ∀ S : Fin 32 → Finset (Fin 20000), (∀ q p, U (ix2 q p) ≠ 4294967295#32) →
      (∀ q p p', (rawKey (U (ix2 q p))).toInt ≤ (rawKey (U (ix2 q p'))).toInt → b q p - a q p ≤ b q p' - a q p') →
      (∀ q, IsTop (Finset.univ.filter fun p => ¬ 0 < BitVec.toInt (L (ix2 q p))) (S q) fun p => b q p - a q p) →
      (∀ q, (S q).card = nNeg (fun p => L (ix2 q p))) →
      w = ((∑ q : Fin 32, confRow (fun p => b q p - a q p) (fun p => L (ix2 q p)) (S q) : ℝ) : EReal)) :
    w = refConf X L ix0 := by
  have ha := fun q p => finite_read X hX q p 0
  have hb := fun q p => finite_read X hX q p 1
  exact (hw _ _ ha hb (refChosen X L) (words_ne X U hU) (words_read X U hU _ _ ha hb)
    (fun q => refChosen_top X L q _ _ (ha q) (hb q)) (fun q => refChosen_card X L q _ _ (ha q) (hb q))).trans
    (refConf_sum L X _ _ ha hb (labels_read L hL)).symm

/-- The claim. -/
theorem algebraic : Cert.algebraic_KernelIdeal_ReferenceIdeal_pre_in_range (hKernelIdeal := Cert.KernelIdeal.Gen.facts)
    (hReferenceIdeal := Cert.ReferenceIdeal.Gen.facts) (hPre_in_range := preFacts) := by
  intro m g m' g' hpre hagree
  have hp : ∀ c : Dev Cert.KernelIdeal.nD, _ := fun c => congrFun ((pre_eq _ _ _ _ _ _ _ _).symm.trans (hpre c)) ix0
  refine ⟨fun c => ratio (words m c) 0 3, fun c => ratio (words m c) 1 3, fun c => ratio (words m c) 2 4, ?_, ?_⟩
  · refine (θ_run _ _ _).mono (fun r h c => ?_) (θ_run_and (kernel_run m g) (Cert.KernelIdeal.Gen.frame m g))
    exact ⟨(h.1 c).1, (h.1 c).2.1, (h.1 c).2.2, h.2.1 c⟩
  · refine (θ_run _ _ _).mono (fun r h c => ?_) (reference_run m' g')
    obtain ⟨h0, h1, h2, hargs⟩ := h c
    obtain ⟨e0, e1, e2, e3, e4, e5, e6, e7⟩ := hagree c
    have hc := hp c
    obtain ⟨hc, hV⟩ := (andi_iff _ _).mp hc
    obtain ⟨hc, hU⟩ := (andi_iff _ _).mp hc
    obtain ⟨hc, hXY⟩ := (andi_iff _ _).mp hc
    obtain ⟨hL, hM⟩ := (andi_iff _ _).mp hc
    obtain ⟨hX, hY⟩ := (andi_iff _ _).mp hXY
    refine ⟨h0.trans ?_, h1.trans ?_, h2.trans ?_, hargs⟩
    · rw [e0, e3, e4]
      exact ratio_of _ _ _ _ _ ((whole_loc m c).trans (refLoc_sum _ _ _).symm) ((whole_npp_3 m c).trans (refTotal_sum _).symm)
    · rw [e1, e4]
      exact ratio_of _ _ _ _ _ (conf_agree _ _ _ _ hL hX hU fun a b ha hb S hu hw hS hc => whole_conf_1 m c a b ha hb S hu hw hS hc)
        ((whole_npp_3 m c).trans (refTotal_sum _).symm)
    · rw [e2, e5]
      exact ratio_of _ _ _ _ _ (conf_agree _ _ _ _ hM hY hV fun a b ha hb S hu hw hS hc => whole_conf_2 m c a b ha hb S hu hw hS hc)
        ((whole_npp_4 m c).trans (refTotal_sum _).symm)

end Cert.Own
-- ==== Proof.lean ====
/-
  The whole certificate: the facts about shapes, the frames of the three programs, and the equality of the kernel's and
  the reference's results over the extended reals, each proved in a module of its own.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- Everything that is claimed. -/
theorem claim : Cert.Claim :=
  ⟨Cert.Kernel.Gen.facts, Cert.KernelIdeal.Gen.facts, Cert.ReferenceIdeal.Gen.facts, Cert.Own.preFacts,
    Cert.Own.frame_kernel, Cert.Own.frame_kernelIdeal, Cert.Own.frame_kernelIdeal_pre, Cert.Own.frame_referenceIdeal,
    Cert.Own.frame_referenceIdeal_pre, trivial, Cert.Own.algebraic⟩

end Cert.Proof

end
